-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x4x64 : S_.BroadcastsInDim S2x256x4x64 (![] : Fin 0 → Fin S2x256x4x64.rank)

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S2x256x512 1 × IVec S512x256 1 × IVec S2x256x4x64 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S2x256x4x64 .f32 := (extf .f32 · bitsLt_bf16_f32) main_arg2
  let main_v9 : FVec F S2x256x4x64 .f32 := Host.absf main_v8
  let main_cst_1 : FVec F S_ .f32 := constant S_ .f32 0x7F800000#32
  let main_v10 : FVec F S2x256x4x64 .f32 := broadcastInDim S2x256x4x64 ![] bcast_S_S2x256x4x64 main_cst_1
  let main_v11 : IVec S2x256x4x64 1 := cmpf .olt main_v9 main_v10
  (main_v3, main_v7, main_v11)
-- ==== Pre_finite_ReferenceIdeal.lean ====
abbrev S2x256x512 : Shape := ⟨3, ![2, 256, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  bcast_S_S512x256 : S_.BroadcastsInDim S512x256 (![] : Fin 0 → Fin S512x256.rank)
  bcast_S_S2x1024x4x64 : S_.BroadcastsInDim S2x1024x4x64 (![] : Fin 0 → Fin S2x1024x4x64.rank)

variable [Facts]

def fn {F : FTy → Type} [FloatOps F] (main_arg0 : FVec F S2x256x512 .bf16) (main_arg1 : FVec F S512x256 .bf16) (main_arg2 : FVec F S2x1024x4x64 .bf16) (main_arg3 : FVec F S2x1024x4x64 .bf16) (main_arg4 : FVec F S256x512 .bf16) : IVec S2x256x512 1 × IVec S512x256 1 × IVec S2x1024x4x64 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S2x1024x4x64 .f32 := (extf .f32 · bitsLt_bf16_f32) main_arg2
  let main_v9 : FVec F S2x1024x4x64 .f32 := Host.absf main_v8
  let main_cst_1 : FVec F S_ .f32 := constant S_ .f32 0x7F800000#32
  let main_v10 : FVec F S2x1024x4x64 .f32 := broadcastInDim S2x1024x4x64 ![] bcast_S_S2x1024x4x64 main_cst_1
  let main_v11 : IVec S2x1024x4x64 1 := cmpf .olt main_v9 main_v10
  (main_v3, main_v7, main_v11)
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S4x2x256x256 : Shape := ⟨4, ![4, 2, 256, 256]⟩
abbrev S4x2x8x256 : Shape := ⟨4, ![4, 2, 8, 256]⟩
abbrev S2x2x3 : Shape := ⟨3, ![2, 2, 3]⟩
abbrev S2x3 : Shape := ⟨2, ![2, 3]⟩
abbrev S_ : Shape := ⟨0, ![]⟩
abbrev S256x256 : Shape := ⟨2, ![256, 256]⟩
abbrev S1x256x512 : Shape := ⟨3, ![1, 256, 512]⟩
abbrev S256x64 : Shape := ⟨2, ![256, 64]⟩
abbrev S1x256x1x64 : Shape := ⟨4, ![1, 256, 1, 64]⟩
abbrev S256 : Shape := ⟨1, ![256]⟩
abbrev S1x256 : Shape := ⟨2, ![1, 256]⟩
abbrev S64x256 : Shape := ⟨2, ![64, 256]⟩
abbrev S1x1x64x256 : Shape := ⟨4, ![1, 1, 64, 256]⟩
abbrev S1x1x1x256 : Shape := ⟨4, ![1, 1, 1, 256]⟩
abbrev S1x1x1 : Shape := ⟨3, ![1, 1, 1]⟩
abbrev S1x1x128x256 : Shape := ⟨4, ![1, 1, 128, 256]⟩
abbrev S128x256 : Shape := ⟨2, ![128, 256]⟩
abbrev S1x1 : Shape := ⟨2, ![1, 1]⟩
abbrev S1x1x8x256 : Shape := ⟨4, ![1, 1, 8, 256]⟩
abbrev S8x256 : Shape := ⟨2, ![8, 256]⟩
abbrev S1x1x256x256 : Shape := ⟨4, ![1, 1, 256, 256]⟩
abbrev S1x1x4x256 : Shape := ⟨4, ![1, 1, 4, 256]⟩
abbrev S4x256 : Shape := ⟨2, ![4, 256]⟩

abbrev nBuf : Space → Nat
  | .hbm => 6
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x512, .bf16⟩
  | .local _ .vmem, ⟨0, _⟩ => ⟨S2x256x512, .bf16⟩
  | .local _ .vmem, ⟨1, _⟩ => ⟨S512x256, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S256x512, .bf16⟩
  | .local _ .vmem, ⟨5, _⟩ => ⟨S2x256x512, .bf16⟩
  | .local _ .vmem, ⟨6, _⟩ => ⟨S4x2x256x256, .bf16⟩
  | .local _ .vmem, ⟨7, _⟩ => ⟨S4x2x8x256, .f32⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_69 : BitVec 32 := 2#32
  let v118 : BitVec 32 := Scalar.addi v2 c2_i32_69
  let c4_i32_70 : BitVec 32 := 4#32
  let v119 : BitVec 32 := Scalar.remsi v118 c4_i32_70
  let c1_i32_81 : BitVec 32 := 1#32
  let v120 : BitVec 32 := Scalar.muli v119 c1_i32_81
  let v121 : BitVec 32 := Scalar.addi c0_i32_82 v120
  v121.toNat
def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_87 : BitVec 32 := 1#32
  let v130 : BitVec 32 := Scalar.addi v2 c1_i32_87
  let c4_i32_88 : BitVec 32 := 4#32
  let v131 : BitVec 32 := Scalar.remsi v130 c4_i32_88
  let c1_i32_99 : BitVec 32 := 1#32
  let v132 : BitVec 32 := Scalar.muli v131 c1_i32_99
  let v133 : BitVec 32 := Scalar.addi c0_i32_100 v132
  v133.toNat
def k0_dev6 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_105 : BitVec 32 := 3#32
  let v142 : BitVec 32 := Scalar.addi v2 c3_i32_105
  let c4_i32_106 : BitVec 32 := 4#32
  let v143 : BitVec 32 := Scalar.remsi v142 c4_i32_106
  let c1_i32_117 : BitVec 32 := 1#32
  let v144 : BitVec 32 := Scalar.muli v143 c1_i32_117
  let v145 : BitVec 32 := Scalar.addi c0_i32_118 v144
  v145.toNat
def k0_dev7 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_157 : BitVec 32 := 2#32
  let v194 : BitVec 32 := Scalar.addi v2 c2_i32_157
  let c4_i32_158 : BitVec 32 := 4#32
  let v195 : BitVec 32 := Scalar.remsi v194 c4_i32_158
  let c1_i32_169 : BitVec 32 := 1#32
  let v196 : BitVec 32 := Scalar.muli v195 c1_i32_169
  let v197 : BitVec 32 := Scalar.addi c0_i32_170 v196
  v197.toNat
def k0_dev8 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_157 : BitVec 32 := 2#32
  let v194 : BitVec 32 := Scalar.addi v2 c2_i32_157
  let c4_i32_158 : BitVec 32 := 4#32
  let v195 : BitVec 32 := Scalar.remsi v194 c4_i32_158
  let c1_i32_182 : BitVec 32 := 1#32
  let v206 : BitVec 32 := Scalar.muli v195 c1_i32_182
  let v207 : BitVec 32 := Scalar.addi c0_i32_183 v206
  v207.toNat
def k0_dev9 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_188 : BitVec 32 := 1#32
  let v216 : BitVec 32 := Scalar.addi v2 c1_i32_188
  let c4_i32_189 : BitVec 32 := 4#32
  let v217 : BitVec 32 := Scalar.remsi v216 c4_i32_189
  let c1_i32_200 : BitVec 32 := 1#32
  let v218 : BitVec 32 := Scalar.muli v217 c1_i32_200
  let v219 : BitVec 32 := Scalar.addi c0_i32_201 v218
  v219.toNat
def k0_dev10 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_188 : BitVec 32 := 1#32
  let v216 : BitVec 32 := Scalar.addi v2 c1_i32_188
  let c4_i32_189 : BitVec 32 := 4#32
  let v217 : BitVec 32 := Scalar.remsi v216 c4_i32_189
  let c1_i32_214 : BitVec 32 := 1#32
  let v228 : BitVec 32 := Scalar.muli v217 c1_i32_214
  let v229 : BitVec 32 := Scalar.addi c0_i32_215 v228
  v229.toNat
def k0_dev11 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_220 : BitVec 32 := 3#32
  let v238 : BitVec 32 := Scalar.addi v2 c3_i32_220
  let c4_i32_221 : BitVec 32 := 4#32
  let v239 : BitVec 32 := Scalar.remsi v238 c4_i32_221
  let c1_i32_232 : BitVec 32 := 1#32
  let v240 : BitVec 32 := Scalar.muli v239 c1_i32_232
  let v241 : BitVec 32 := Scalar.addi c0_i32_233 v240
  v241.toNat
def k0_dev12 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_220 : BitVec 32 := 3#32
  let v238 : BitVec 32 := Scalar.addi v2 c3_i32_220
  let c4_i32_221 : BitVec 32 := 4#32
  let v239 : BitVec 32 := Scalar.remsi v238 c4_i32_221
  let c1_i32_246 : BitVec 32 := 1#32
  let v250 : BitVec 32 := Scalar.muli v239 c1_i32_246
  let v251 : BitVec 32 := Scalar.addi c0_i32_247 v250
  v251.toNat
def k0_dev13 (d0 : Dev nD) : Nat :=
  let c0_i32_307 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_294 : BitVec 32 := 2#32
  let v303 : BitVec 32 := Scalar.addi v2 c2_i32_294
  let c4_i32_295 : BitVec 32 := 4#32
  let v304 : BitVec 32 := Scalar.remsi v303 c4_i32_295
  let c1_i32_306 : BitVec 32 := 1#32
  let v305 : BitVec 32 := Scalar.muli v304 c1_i32_306
  let v306 : BitVec 32 := Scalar.addi c0_i32_307 v305
  v306.toNat
def k0_dev14 (d0 : Dev nD) : Nat :=
  let c0_i32_325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_312 : BitVec 32 := 1#32
  let v315 : BitVec 32 := Scalar.addi v2 c1_i32_312
  let c4_i32_313 : BitVec 32 := 4#32
  let v316 : BitVec 32 := Scalar.remsi v315 c4_i32_313
  let c1_i32_324 : BitVec 32 := 1#32
  let v317 : BitVec 32 := Scalar.muli v316 c1_i32_324
  let v318 : BitVec 32 := Scalar.addi c0_i32_325 v317
  v318.toNat
def k0_dev15 (d0 : Dev nD) : Nat :=
  let c0_i32_343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_330 : BitVec 32 := 3#32
  let v327 : BitVec 32 := Scalar.addi v2 c3_i32_330
  let c4_i32_331 : BitVec 32 := 4#32
  let v328 : BitVec 32 := Scalar.remsi v327 c4_i32_331
  let c1_i32_342 : BitVec 32 := 1#32
  let v329 : BitVec 32 := Scalar.muli v328 c1_i32_342
  let v330 : BitVec 32 := Scalar.addi c0_i32_343 v329
  v330.toNat
def k0_dev16 (d0 : Dev nD) : Nat :=
  let c0_i32_399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_386 : BitVec 32 := 2#32
  let v379 : BitVec 32 := Scalar.addi v2 c2_i32_386
  let c4_i32_387 : BitVec 32 := 4#32
  let v380 : BitVec 32 := Scalar.remsi v379 c4_i32_387
  let c1_i32_398 : BitVec 32 := 1#32
  let v381 : BitVec 32 := Scalar.muli v380 c1_i32_398
  let v382 : BitVec 32 := Scalar.addi c0_i32_399 v381
  v382.toNat
def k0_dev17 (d0 : Dev nD) : Nat :=
  let c0_i32_413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_386 : BitVec 32 := 2#32
  let v379 : BitVec 32 := Scalar.addi v2 c2_i32_386
  let c4_i32_387 : BitVec 32 := 4#32
  let v380 : BitVec 32 := Scalar.remsi v379 c4_i32_387
  let c1_i32_412 : BitVec 32 := 1#32
  let v391 : BitVec 32 := Scalar.muli v380 c1_i32_412
  let v392 : BitVec 32 := Scalar.addi c0_i32_413 v391
  v392.toNat
def k0_dev18 (d0 : Dev nD) : Nat :=
  let c0_i32_431 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v401 : BitVec 32 := Scalar.addi v2 c1_i32_418
  let c4_i32_419 : BitVec 32 := 4#32
  let v402 : BitVec 32 := Scalar.remsi v401 c4_i32_419
  let c1_i32_430 : BitVec 32 := 1#32
  let v403 : BitVec 32 := Scalar.muli v402 c1_i32_430
  let v404 : BitVec 32 := Scalar.addi c0_i32_431 v403
  v404.toNat
def k0_dev19 (d0 : Dev nD) : Nat :=
  let c0_i32_445 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v401 : BitVec 32 := Scalar.addi v2 c1_i32_418
  let c4_i32_419 : BitVec 32 := 4#32
  let v402 : BitVec 32 := Scalar.remsi v401 c4_i32_419
  let c1_i32_444 : BitVec 32 := 1#32
  let v413 : BitVec 32 := Scalar.muli v402 c1_i32_444
  let v414 : BitVec 32 := Scalar.addi c0_i32_445 v413
  v414.toNat
def k0_dev20 (d0 : Dev nD) : Nat :=
  let c0_i32_463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_450 : BitVec 32 := 3#32
  let v423 : BitVec 32 := Scalar.addi v2 c3_i32_450
  let c4_i32_451 : BitVec 32 := 4#32
  let v424 : BitVec 32 := Scalar.remsi v423 c4_i32_451
  let c1_i32_462 : BitVec 32 := 1#32
  let v425 : BitVec 32 := Scalar.muli v424 c1_i32_462
  let v426 : BitVec 32 := Scalar.addi c0_i32_463 v425
  v426.toNat
def k0_dev21 (d0 : Dev nD) : Nat :=
  let c0_i32_477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_450 : BitVec 32 := 3#32
  let v423 : BitVec 32 := Scalar.addi v2 c3_i32_450
  let c4_i32_451 : BitVec 32 := 4#32
  let v424 : BitVec 32 := Scalar.remsi v423 c4_i32_451
  let c1_i32_476 : BitVec 32 := 1#32
  let v435 : BitVec 32 := Scalar.muli v424 c1_i32_476
  let v436 : BitVec 32 := Scalar.addi c0_i32_477 v435
  v436.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x256 : Shape := ⟨2, ![512, 256]⟩
abbrev S2x1024x4x64 : Shape := ⟨4, ![2, 1024, 4, 64]⟩
abbrev S256x512 : Shape := ⟨2, ![256, 512]⟩
abbrev S2x256x256 : Shape := ⟨3, ![2, 256, 256]⟩
abbrev S2x256x4x64 : Shape := ⟨4, ![2, 256, 4, 64]⟩
abbrev S256 : Shape := ⟨1, ![256]⟩
abbrev S_ : Shape := ⟨0, ![]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S2x4x256x1024 : Shape := ⟨4, ![2, 4, 256, 1024]⟩
abbrev S1x1x256x1024 : Shape := ⟨4, ![1, 1, 256, 1024]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 143
  | .vmem => 0
  | .smem => 0
  | _ => 0

abbrev hbmTy0_0 (i : Nat) : BufTy := match i % 128 with
  | 0 => ⟨S2x256x512, .bf16⟩
  | 1 => ⟨S512x256, .bf16⟩
  | 2 => ⟨S2x1024x4x64, .bf16⟩
  | 3 => ⟨S2x1024x4x64, .bf16⟩
  | 4 => ⟨S256x512, .bf16⟩
  | 5 => ⟨S2x256x512, .f32⟩
  | 6 => ⟨S512x256, .f32⟩
  | 7 => ⟨S2x1024x4x64, .f32⟩
  | 8 => ⟨S2x1024x4x64, .f32⟩
  | 9 => ⟨S256x512, .f32⟩
  | 10 => ⟨S2x256x256, .f32⟩
  | 11 => ⟨S2x256x4x64, .f32⟩
  | 12 => ⟨S256, .i32⟩
  | 13 => ⟨S_, .i32⟩
  | 14 => ⟨S_, .i32⟩
  | 15 => ⟨S256, .i32⟩
  | 16 => ⟨S256, .i32⟩
  | 17 => ⟨S256, .i32⟩
  | 18 => ⟨S_, .i32⟩
  | 19 => ⟨S256, .i32⟩
  | 20 => ⟨S256, .i1⟩
  | 21 => ⟨S256, .i32⟩
  | 22 => ⟨S256, .i32⟩
  | 23 => ⟨S_, .i32⟩
  | 24 => ⟨S256, .i32⟩
  | 25 => ⟨S256, .i1⟩
  | 26 => ⟨S256, .i1⟩
  | 27 => ⟨S_, .i32⟩
  | 28 => ⟨S256, .i32⟩
  | 29 => ⟨S256, .i32⟩
  | 30 => ⟨S256, .i32⟩
  | 31 => ⟨S256x1, .i32⟩
  | 32 => ⟨S1024, .i32⟩
  | 33 => ⟨S_, .i32⟩
  | 34 => ⟨S_, .i32⟩
  | 35 => ⟨S1024, .i32⟩
  | 36 => ⟨S1024, .i32⟩
  | 37 => ⟨S1024, .i32⟩
  | 38 => ⟨S_, .i32⟩
  | 39 => ⟨S1024, .i32⟩
  | 40 => ⟨S1024, .i1⟩
  | 41 => ⟨S1024, .i32⟩
  | 42 => ⟨S1024, .i32⟩
  | 43 => ⟨S_, .i32⟩
  | 44 => ⟨S1024, .i32⟩
  | 45 => ⟨S1024, .i1⟩
  | 46 => ⟨S1024, .i1⟩
  | 47 => ⟨S_, .i32⟩
  | 48 => ⟨S1024, .i32⟩
  | 49 => ⟨S1024, .i32⟩
  | 50 => ⟨S1024, .i32⟩
  | 51 => ⟨S1x1024, .i32⟩
  | 52 => ⟨S256x1024, .i32⟩
  | 53 => ⟨S256x1024, .i32⟩
  | 54 => ⟨S256x1024, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x1024, .i32⟩
  | 62 => ⟨S1x1024, .i32⟩
  | 63 => ⟨S_, .i32⟩
  | 64 => ⟨S1x1024, .i32⟩
  | 65 => ⟨S1x1024, .i1⟩
  | 66 => ⟨S_, .i32⟩
  | 67 => ⟨S1x1024, .i32⟩
  | 68 => ⟨S1x1024, .i1⟩
  | 69 => ⟨S_, .i32⟩
  | 70 => ⟨S_, .i1⟩
  | 71 => ⟨S1x1024, .i1⟩
  | 72 => ⟨S1x1024, .i1⟩
  | 73 => ⟨S1x1024, .i1⟩
  | 74 => ⟨S1x1024, .i32⟩
  | 75 => ⟨S1x1024, .i32⟩
  | 76 => ⟨S1x1024, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S256x1, .i32⟩
  | 84 => ⟨S256x1, .i32⟩
  | 85 => ⟨S_, .i32⟩
  | 86 => ⟨S256x1, .i32⟩
  | 87 => ⟨S256x1, .i1⟩
  | 88 => ⟨S_, .i32⟩
  | 89 => ⟨S256x1, .i32⟩
  | 90 => ⟨S256x1, .i1⟩
  | 91 => ⟨S_, .i32⟩
  | 92 => ⟨S_, .i1⟩
  | 93 => ⟨S256x1, .i1⟩
  | 94 => ⟨S256x1, .i1⟩
  | 95 => ⟨S256x1, .i1⟩
  | 96 => ⟨S256x1, .i32⟩
  | 97 => ⟨S256x1, .i32⟩
  | 98 => ⟨S256x1, .i32⟩
  | 99 => ⟨S256x1024, .i32⟩
  | 100 => ⟨S256x1024, .i32⟩
  | 101 => ⟨S256x1024, .i1⟩
  | 102 => ⟨S256x1024, .i1⟩
  | 103 => ⟨S2x4x256x1024, .f32⟩
  | 104 => ⟨S_, .f32⟩
  | 105 => ⟨S2x4x256x1024, .f32⟩
  | 106 => ⟨S2x4x256x1024, .f32⟩
  | 107 => ⟨S1x1x256x1024, .i1⟩
  | 108 => ⟨S_, .f32⟩
  | 109 => ⟨S_, .f32⟩
  | 110 => ⟨S2x4x256x1024, .i1⟩
  | 111 => ⟨S2x4x256x1024, .f32⟩
  | 112 => ⟨S2x4x256x1024, .f32⟩
  | 113 => ⟨S_, .f32⟩
  | 114 => ⟨S2x4x256, .f32⟩
  | 115 => ⟨S2x4x256x1, .f32⟩
  | 116 => ⟨S2x4x256x1024, .f32⟩
  | 117 => ⟨S2x4x256x1024, .f32⟩
  | 118 => ⟨S2x4x256x1024, .f32⟩
  | 119 => ⟨S_, .i1⟩
  | 120 => ⟨S256, .i1⟩
  | 121 => ⟨S1x1x256x1, .i1⟩
  | 122 => ⟨S_, .f32⟩
  | 123 => ⟨S2x4x256, .f32⟩
  | 124 => ⟨S2x4x256x1, .f32⟩
  | 125 => ⟨S_, .f32⟩
  | 126 => ⟨S_, .f32⟩
  | 127 => ⟨S2x4x256x1, .i1⟩
  | _ => ⟨S2x256x512, .bf16⟩

abbrev hbmTy0_1 (i : Nat) : BufTy := match i % 128 with
  | 0 => ⟨S2x4x256x1, .f32⟩
  | 1 => ⟨S2x4x256x1, .f32⟩
  | 2 => ⟨S2x4x256x1024, .f32⟩
  | 3 => ⟨S2x4x256x1024, .f32⟩
  | 4 => ⟨S1x1x256x1, .i1⟩
  | 5 => ⟨S_, .f32⟩
  | 6 => ⟨S_, .f32⟩
  | 7 => ⟨S2x4x256x1024, .i1⟩
  | 8 => ⟨S2x4x256x1024, .f32⟩
  | 9 => ⟨S2x4x256x1024, .f32⟩
  | 10 => ⟨S2x4x64x256, .f32⟩
  | 11 => ⟨S2x256x4x64, .f32⟩
  | 12 => ⟨S2x256x256, .f32⟩
  | 13 => ⟨S2x256x512, .f32⟩
  | 14 => ⟨S2x256x512, .bf16⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩

abbrev nD : Nat := 1
abbrev τ : Topo := Topo.v7x

variable {F : FTy → Type} [FloatOps F]
-- ==== Proof.Mem.lean ====
/-
# The memory of the attention ring, as the proof names it

The landing buffers' pieces (`cM`: 128 rows of one batch's partial context in one slot; `sM`: one batch's partial
denominators in one slot), where they lie, the four DMA semaphore arrays entry by entry, and the peers.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe

/-! ## Peers -/

/-- The device `n` places after `c` around the mesh. -/
def dv (c : Dev nD) (n : ℕ) : Dev nD := ⟨(c.val + n) % 4, Nat.mod_lt _ (by decide)⟩

theorem dv_zero (c : Dev nD) : dv c 0 = c := Fin.ext (Nat.mod_eq_of_lt c.isLt)
theorem dv_dv (c : Dev nD) (a b : ℕ) : dv (dv c a) b = dv c (a + b) := Fin.ext (by simp only [dv]; omega)
theorem dv_four (c : Dev nD) : dv c 4 = c := Fin.ext (by have := c.isLt; simp only [dv]; change (c.val + 4) % 4 = c.val; change c.val < 4 at this; omega)

/-- The peer `j + 1` places after `c`. -/
abbrev pl (c : Dev nD) (j : Fin 3) : Dev nD := dv c (j.val + 1)

theorem pl_rev (c : Dev nD) (j : Fin 3) : pl (pl c j) j.rev = c := by
  rw [pl, pl, dv_dv, show j.val + 1 + (j.rev.val + 1) = 4 from by revert j; decide, dv_four]
theorem pl_rev' (c : Dev nD) (j : Fin 3) : pl (pl c j.rev) j = c := by
  have := pl_rev c j.rev
  rwa [Fin.rev_rev] at this

/-- The devices carried `j + 1` places on. -/
def shift (j : Fin 3) : Dev nD ≃ Dev nD := ⟨fun c => pl c j, fun c => pl c j.rev, fun c => pl_rev c j, fun c => pl_rev' c j⟩

/-! ## The pieces of the two landing buffers -/

theorem inb_c (s : Fin 4) (b w : Fin 2) : ∀ a, (![s.val, b.val, 128 * w.val, 0] : Fin 4 → ℕ) a + S1x1x128x256.size a ≤ S4x2x256x256.size a := by
  revert s b w; decide
theorem inb_s (s : Fin 4) (b : Fin 2) : ∀ a, (![s.val, b.val, 0, 0] : Fin 4 → ℕ) a + S1x1x8x256.size a ≤ S4x2x8x256.size a := by
  revert s b; decide

abbrev cRect (s : Fin 4) (b w : Fin 2) : Rect S4x2x256x256 := Rect.unit (s := S4x2x256x256) ![s.val, b.val, 128 * w.val, 0] S1x1x128x256.size (inb_c s b w)
abbrev sRect (s : Fin 4) (b : Fin 2) : Rect S4x2x8x256 := Rect.unit (s := S4x2x8x256) ![s.val, b.val, 0, 0] S1x1x8x256.size (inb_s s b)

abbrev cAll : Memref sig .tc .vmem S4x2x256x256 .bf16 := Memref.whole cc0_scratch0
abbrev sAll : Memref sig .tc .vmem S4x2x8x256 .f32 := Memref.whole cc0_scratch1

/-- Rows `128 w … 128 w + 127` of batch `b` in slot `s` of the context buffer. -/
abbrev cM (s : Fin 4) (b w : Fin 2) : Memref sig .tc .vmem S128x256 .bf16 :=
  (cAll.slice (cRect s b w) (fun _ => rfl)).squeeze S128x256 squeezes_S1x1x128x256_S128x256
/-- Batch `b` in slot `s` of the denominator buffer. -/
abbrev sM (s : Fin 4) (b : Fin 2) : Memref sig .tc .vmem S8x256 .f32 :=
  (sAll.slice (sRect s b) (fun _ => rfl)).squeeze S8x256 squeezes_S1x1x8x256_S8x256

/-- The elements of the pieces. -/
def cSet (s : Fin 4) (b w : Fin 2) : Finset S4x2x256x256.Idx := (cRect s b w).set
def sSet (s : Fin 4) (b : Fin 2) : Finset S4x2x8x256.Idx := (sRect s b).set

theorem cM_set (s : Fin 4) (b w : Fin 2) : (cM s b w).view.set = cSet s b w := by
  show (View.reshape _ _ _).set = _
  rw [View.set_reshape]; exact View.set_slice_whole _ _
theorem sM_set (s : Fin 4) (b : Fin 2) : (sM s b).view.set = sSet s b := by
  show (View.reshape _ _ _).set = _
  rw [View.set_reshape]; exact View.set_slice_whole _ _

theorem mem_cSet {s : Fin 4} {b w : Fin 2} {i : S4x2x256x256.Idx} :
    i ∈ cSet s b w ↔ (i 0).val = s.val ∧ (i 1).val = b.val ∧ (i 2).val / 128 = w.val := by
  rw [cSet, Rect.mem_set_unit]
  have h3 : (i 3).val < 256 := (i 3).isLt
  constructor
  · intro h
    have h0 := h 0; have h1 := h 1; have h2 := h 2
    change s.val ≤ (i 0).val ∧ (i 0).val < s.val + 1 at h0
    change b.val ≤ (i 1).val ∧ (i 1).val < b.val + 1 at h1
    change 128 * w.val ≤ (i 2).val ∧ (i 2).val < 128 * w.val + 128 at h2
    omega
  · rintro ⟨h0, h1, h2⟩ a
    have a0 : s.val ≤ (i 0).val ∧ (i 0).val < s.val + 1 := by omega
    have a1 : b.val ≤ (i 1).val ∧ (i 1).val < b.val + 1 := by omega
    have a2 : 128 * w.val ≤ (i 2).val ∧ (i 2).val < 128 * w.val + 128 := by omega
    have a3 : 0 ≤ (i 3).val ∧ (i 3).val < 0 + 256 := by omega
    fin_cases a
    · exact a0
    · exact a1
    · exact a2
    · exact a3

theorem mem_sSet {s : Fin 4} {b : Fin 2} {i : S4x2x8x256.Idx} :
    i ∈ sSet s b ↔ (i 0).val = s.val ∧ (i 1).val = b.val := by
  rw [sSet, Rect.mem_set_unit]
  have h2 : (i 2).val < 8 := (i 2).isLt
  have h3 : (i 3).val < 256 := (i 3).isLt
  constructor
  · intro h
    have h0 := h 0; have h1 := h 1
    change s.val ≤ (i 0).val ∧ (i 0).val < s.val + 1 at h0
    change b.val ≤ (i 1).val ∧ (i 1).val < b.val + 1 at h1
    omega
  · rintro ⟨h0, h1⟩ a
    have a0 : s.val ≤ (i 0).val ∧ (i 0).val < s.val + 1 := by omega
    have a1 : b.val ≤ (i 1).val ∧ (i 1).val < b.val + 1 := by omega
    have a2 : 0 ≤ (i 2).val ∧ (i 2).val < 0 + 8 := by omega
    have a3 : 0 ≤ (i 3).val ∧ (i 3).val < 0 + 256 := by omega
    fin_cases a
    · exact a0
    · exact a1
    · exact a2
    · exact a3

/-! ## The semaphores -/

/-- The runtime's barrier semaphore. -/
abbrev barS : Sem sig := (SemArray.scalar (sig.barrier 0 rfl) : Sems sig S_).sem

/-- A transfer of one device's round: the batch, the piece (`0`, `1` the two halves of the partial context, `2` the
    partial denominators), and a place around the mesh (on the sending side the peer `j + 1` places on, on the
    receiving side the slot `j + 1`, which the device `j + 1` places on fills). -/
abbrev Tr : Type := Fin 2 × Fin 3 × Fin 3

/-- The number of a transfer's DMA semaphore in arrays that begin at `cb` (context) and `sb` (denominators). -/
def semNo (cb sb : ℕ) (x : Tr) : ℕ := if x.2.1 = 2 then sb + 3 * x.1.val + x.2.2.val else cb + 6 * x.1.val + 3 * x.2.1.val + x.2.2.val

theorem semNo_lt (x : Tr) : semNo 6 30 x < 42 ∧ semNo 18 36 x < 42 := by revert x; decide

def sndSem (x : Tr) : DmaSem sig := ⟨semNo 6 30 x, (semNo_lt x).1⟩
def rcvSem (x : Tr) : DmaSem sig := ⟨semNo 18 36 x, (semNo_lt x).2⟩

/-- A cell of one device: its barrier, or the departure (`false`) or arrival (`true`) cell of a transfer. -/
abbrev Ck : Type := Option (Bool × Tr)
def csem : Ck → SemLoc sig
  | none => .reg barS
  | some (false, x) => .dma (sndSem x)
  | some (true, x) => .dma (rcvSem x)

theorem csem_some_inj : ∀ y y' : Bool × Tr, csem (some y) = csem (some y') → y = y' := by decide +kernel

theorem csem_inj : Function.Injective csem := by
  rintro (_ | y) (_ | y') h
  · rfl
  · rcases y' with ⟨_ | _, x⟩ <;> cases h
  · rcases y with ⟨_ | _, x⟩ <;> cases h
  · exact congrArg some (csem_some_inj _ _ h)

theorem inb_q (b w : Fin 2) (j : Fin 3) : ∀ a, (![b.val, w.val, j.val] : Fin 3 → ℕ) a + S1x1x1.size a ≤ S2x2x3.size a := by
  revert b w j; decide
theorem inb_q2 (b : Fin 2) (j : Fin 3) : ∀ a, (![b.val, j.val] : Fin 2 → ℕ) a + S1x1.size a ≤ S2x3.size a := by
  revert b j; decide

abbrev qC (A : DmaSems sig S2x2x3) (b w : Fin 2) (j : Fin 3) : DmaSem sig :=
  ((A.slice (Rect.unit (s := S2x2x3) ![b.val, w.val, j.val] S1x1x1.size (inb_q b w j))).squeeze S_ squeezes_S1x1x1_S_).sem
abbrev qS (A : DmaSems sig S2x3) (b : Fin 2) (j : Fin 3) : DmaSem sig :=
  ((A.slice (Rect.unit (s := S2x3) ![b.val, j.val] S1x1.size (inb_q2 b j))).squeeze S_ squeezes_S1x1_S_).sem

theorem qC_snd (b w : Fin 2) (j : Fin 3) : qC cc0_scratch2 b w j = sndSem (b, w.castSucc, j) := by revert b w j; decide +kernel
theorem qC_rcv (b w : Fin 2) (j : Fin 3) : qC cc0_scratch3 b w j = rcvSem (b, w.castSucc, j) := by revert b w j; decide +kernel
theorem qS_snd (b : Fin 2) (j : Fin 3) : qS cc0_scratch4 b j = sndSem (b, 2, j) := by revert b j; decide +kernel
theorem qS_rcv (b : Fin 2) (j : Fin 3) : qS cc0_scratch5 b j = rcvSem (b, 2, j) := by revert b j; decide +kernel

end Cert.KernelIdeal.Attn

end
-- ==== Proof.Vals.lean ====
/-
# What each device computes

The kernel's values, head by head, as functions of the device's staged blocks (any float values): what a device writes
into its own slot of the two landing buffers, hence what every slot of every device holds once the transfers have
landed (slot `s` of device `c` holds the values of the device `s` places after `c`), and the device's result.
-/
module

public import proofs.«01_k».proof.Proof.Mem
public import proofs.«01_k».proof.Proof.Gen.KernelIdeal.Frame
public import Idealize.ShloMosaic.Lib.Pointwise.Index

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F]
variable (m : (ℓ : Loc nD τ sig) → Buf (Elt F) ℓ)

/-! ## The staged blocks and their loads -/

/-- The blocks of the five inputs, as the pipeline stages them. -/
abbrev bX (c : Dev nD) : (cc0_stg0_0 : Ref sig .tc).ty.Contents (Elt F) := iblk m c 0 t0_0
abbrev bWq (c : Dev nD) : (cc0_stg1_0 : Ref sig .tc).ty.Contents (Elt F) := iblk m c 1 t0_0
abbrev bK (c : Dev nD) : (cc0_stg2_0 : Ref sig .tc).ty.Contents (Elt F) := iblk m c 2 t0_0
abbrev bV (c : Dev nD) : (cc0_stg3_0 : Ref sig .tc).ty.Contents (Elt F) := iblk m c 3 t0_0
abbrev bWo (c : Dev nD) : (cc0_stg4_0 : Ref sig .tc).ty.Contents (Elt F) := iblk m c 4 t0_0

theorem inb_x (b : Fin 2) : ∀ a, (![b.val, 0, 0] : Fin 3 → ℕ) a + S1x256x512.size a ≤ S2x256x512.size a := by revert b; decide
theorem inb_kv (b : Fin 2) (h : Fin 4) : ∀ a, (![b.val, 0, h.val, 0] : Fin 4 → ℕ) a + S1x256x1x64.size a ≤ S2x256x4x64.size a := by revert b h; decide

abbrev xRect (b : Fin 2) : Rect S2x256x512 := Rect.unit (s := S2x256x512) ![b.val, 0, 0] S1x256x512.size (inb_x b)
abbrev kvRect (b : Fin 2) (h : Fin 4) : Rect S2x256x4x64 := Rect.unit (s := S2x256x4x64) ![b.val, 0, h.val, 0] S1x256x1x64.size (inb_kv b h)

abbrev xM : Memref sig .tc .vmem S2x256x512 .bf16 := Memref.whole cc0_stg0_0
abbrev wqM : Memref sig .tc .vmem S512x256 .bf16 := Memref.whole cc0_stg1_0
abbrev kM : Memref sig .tc .vmem S2x256x4x64 .bf16 := Memref.whole cc0_stg2_0
abbrev vM : Memref sig .tc .vmem S2x256x4x64 .bf16 := Memref.whole cc0_stg3_0
abbrev woM : Memref sig .tc .vmem S256x512 .bf16 := Memref.whole cc0_stg4_0
abbrev oM : Memref sig .tc .vmem S2x256x512 .bf16 := Memref.whole cc0_stg5_0

/-- Batch `b` of the activations; head `h` of batch `b` of the keys and of the values; the two weight blocks. -/
abbrev ldX (c : Dev nD) (b : Fin 2) : Vec F S1x256x512 .bf16 := xM.view.readAt (Elt F) (xRect b).toLoadRect (bX m c)
abbrev ldK (c : Dev nD) (b : Fin 2) (h : Fin 4) : Vec F S1x256x1x64 .bf16 := kM.view.readAt (Elt F) (kvRect b h).toLoadRect (bK m c)
abbrev ldV (c : Dev nD) (b : Fin 2) (h : Fin 4) : Vec F S1x256x1x64 .bf16 := vM.view.readAt (Elt F) (kvRect b h).toLoadRect (bV m c)
abbrev ldWq (c : Dev nD) : Vec F S512x256 .bf16 :=
  wqM.view.readAt (Elt F) (Rect.unit (s := S512x256) ![0, 0] S512x256.size inb_S512x256_S512x256_0_0).toLoadRect (bWq m c)
abbrev ldWo (c : Dev nD) : Vec F S256x512 .bf16 :=
  woM.view.readAt (Elt F) (Rect.unit (s := S256x512) ![0, 0] S256x512.size inb_S256x512_S256x512_0_0).toLoadRect (bWo m c)

/-! ## One head -/

theorem slc (h : Fin 4) : S256x256.Slices ![0, 64 * h.val] S256x64 := by
  fin_cases h
  · exact slices_S256x256_o0_0_S256x64
  · exact slices_S256x256_o0_64_S256x64
  · exact slices_S256x256_o0_128_S256x64
  · exact slices_S256x256_o0_192_S256x64

/-- The scaled query weights, and the block-diagonal mask (key position by query position, one where the two lie in the
    same block of 64). -/
def wqS (c : Dev nD) : FVec F S512x256 .bf16 := k0_pay1 (ldWq m c)
def msk : FVec F S256x256 .f32 := k0_pay5 (iota .tc S256x256 32 [0] iota_S256x256_d0_w32) 64#32 k0_pay3 k0_pay4 0#32
/-- All four heads' queries of batch `b`. -/
def qAll (c : Dev nD) (b : Fin 2) : FVec F S256x256 .f32 := k0_pay6 (wqS m c) (ldX m c b)
/-- Head `h`'s queries. -/
def qHd (c : Dev nD) (b : Fin 2) (h : Fin 4) : FVec F S256x64 .bf16 :=
  truncf .bf16 (extractStridedSlice S256x64 ![0, 64 * h.val] (qAll m c b) (slc h)) bitsLt_bf16_f32
/-- The masked exponentials of the scores, key position by query position. -/
def wts (c : Dev nD) (b : Fin 2) (h : Fin 4) : FVec F S256x256 .f32 :=
  k0_pay13 msk (qHd m c b h) (shapeCast S256x64 (ldK m c b h) shapeCasts_S1x256x1x64_S256x64)
/-- The partial context (head coordinate by query position) and the partial denominators of one head. -/
def hCtx (c : Dev nD) (b : Fin 2) (h : Fin 4) : FVec F S1x1x64x256 .bf16 :=
  k0_pay14 msk (qHd m c b h) (shapeCast S256x64 (ldK m c b h) shapeCasts_S1x256x1x64_S256x64)
    (shapeCast S256x64 (ldV m c b h) shapeCasts_S1x256x1x64_S256x64)
def hDen (c : Dev nD) (b : Fin 2) (h : Fin 4) : FVec F S1x1x1x256 .f32 :=
  k0_pay15 msk (qHd m c b h) (shapeCast S256x64 (ldK m c b h) shapeCasts_S1x256x1x64_S256x64)

/-! ## The landing buffers once everything has landed -/

/-- Row `r` (head `r / 64`, coordinate `r % 64`), query position `q` of device `d`'s partial context of batch `b`; row `r`
    (head `r`) of its partial denominators. -/
def ctxOf (d : Dev nD) (b : Fin 2) (r q : Fin 256) : Elt F .bf16 :=
  hCtx m d b ⟨r.val / 64, by have h := r.isLt; omega⟩ (ix4 (0 : Fin 1) (0 : Fin 1) (⟨r.val % 64, Nat.mod_lt _ (by decide)⟩ : Fin 64) q)
def denOf (d : Dev nD) (b : Fin 2) (r : Fin 8) (q : Fin 256) : Elt F .f32 :=
  hDen m d b ⟨r.val % 4, Nat.mod_lt _ (by decide)⟩ (ix4 (0 : Fin 1) (0 : Fin 1) (0 : Fin 1) q)

/-- The context buffer of device `c`: slot `s` holds the partial contexts of the device `s` places on. -/
def CTX (c : Dev nD) : (cc0_scratch0 : Ref sig .tc).ty.Contents (Elt F) := fun (i : S4x2x256x256.Idx) => ctxOf m (dv c (i 0).val) (i 1) (i 2) (i 3)
/-- The denominator buffer, its first four rows (the others are never written, and never read). -/
def DEN (c : Dev nD) : (cc0_scratch1 : Ref sig .tc).ty.Contents (Elt F) := fun (i : S4x2x8x256.Idx) => denOf m (dv c (i 0).val) (i 1) (i 2) (i 3)

/-! ## The result -/

theorem inb_lc (s : Fin 4) (b : Fin 2) : ∀ a, (![s.val, b.val, 0, 0] : Fin 4 → ℕ) a + S1x1x256x256.size a ≤ S4x2x256x256.size a := by revert s b; decide
theorem inb_ld (s : Fin 4) (b : Fin 2) : ∀ a, (![s.val, b.val, 0, 0] : Fin 4 → ℕ) a + S1x1x4x256.size a ≤ S4x2x8x256.size a := by revert s b; decide
abbrev lcRect (s : Fin 4) (b : Fin 2) : Rect S4x2x256x256 := Rect.unit (s := S4x2x256x256) ![s.val, b.val, 0, 0] S1x1x256x256.size (inb_lc s b)
abbrev ldRect (s : Fin 4) (b : Fin 2) : Rect S4x2x8x256 := Rect.unit (s := S4x2x8x256) ![s.val, b.val, 0, 0] S1x1x4x256.size (inb_ld s b)

/-- Slot `s`, batch `b` of the two landing buffers, as the kernel loads them at the end. -/
def ldC (c : Dev nD) (s : Fin 4) (b : Fin 2) : Vec F S1x1x256x256 .bf16 := cAll.view.readAt (Elt F) (lcRect s b).toLoadRect (CTX m c)
def ldD (c : Dev nD) (s : Fin 4) (b : Fin 2) : Vec F S1x1x4x256 .f32 := sAll.view.readAt (Elt F) (ldRect s b).toLoadRect (DEN m c)

/-- Batch `b` of the result: the four devices' contexts and denominators added up, divided, and carried through the output weights. -/
def outB (c : Dev nD) (b : Fin 2) : FVec F S1x256x512 .bf16 :=
  k0_pay40 (k0_pay2 (ldWo m c)) (k0_pay38 (ldC m c 0 b) (ldC m c 1 b) (ldC m c 2 b) (ldC m c 3 b))
    (k0_pay39 (ldD m c 0 b) (ldD m c 1 b) (ldD m c 2 b) (ldD m c 3 b)) (Scalar.ofBits .f32 0x3F800000#32)
/-- The whole result of device `c`. -/
def outAt (c : Dev nD) : (cc0_stg5_0 : Ref sig .tc).ty.Contents (Elt F) := fun (i : S2x256x512.Idx) => outB m c (i 0) (ix3 (0 : Fin 1) (i 1) (i 2))

end Cert.KernelIdeal.Attn

end
-- ==== Proof.Cells.lean ====
/-
# The exchange as one round per semaphore

Every semaphore the kernel synchronises on is used once. The barrier of device `c` collects one unit from each other
device, and with the unit of the device `j + 1` places before it come the three pieces per batch of that device's
landing buffers which `c` is to fill. A departure cell gives back the share of the piece sent; an arrival cell gives
the slot with the sender's values.
-/
module

public import proofs.«01_k».proof.Proof.Vals

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Pieces held -/

/-- The share of a sent piece that goes with the transfer to each peer, and the share that stays. -/
def shr : Fin 3 → PosShare TreeShare
  | 0 => fullShare.left.right
  | 1 => fullShare.right.left
  | 2 => fullShare.right.right
def shK : PosShare TreeShare := fullShare.left.left

/-- A piece of device `c`'s context buffer at share `q`, holding `f`'s values; one of its denominator buffer. -/
def cPts (c : Dev nD) (s : Fin 4) (b w : Fin 2) (q : PosShare TreeShare) (f : Buf (Elt F) ((c : Thread nD τ).loc cc0_scratch0)) : sProp 𝕄 :=
  (cM s b w).view.loc (c : Thread nD τ) ↦[(cM s b w).view.set]{q} f
def sPts (c : Dev nD) (s : Fin 4) (b : Fin 2) (q : PosShare TreeShare) (f : Buf (Elt F) ((c : Thread nD τ).loc cc0_scratch1)) : sProp 𝕄 :=
  (sM s b).view.loc (c : Thread nD τ) ↦[(sM s b).view.set]{q} f

/-- `f` has the denominators of batch `b` in the first four rows of slot `s`. -/
def DenOk (c : Dev nD) (s : Fin 4) (b : Fin 2) (f : Buf (Elt F) ((c : Thread nD τ).loc cc0_scratch1)) : Prop :=
  ∀ i : S4x2x8x256.Idx, (i 0).val = s.val → (i 1).val = b.val → (i 2).val < 4 → f i = DEN m c i

def sHas (c : Dev nD) (s : Fin 4) (b : Fin 2) (q : PosShare TreeShare) : sProp 𝕄 := iprop(∃ f, ⌜DenOk m c s b f⌝ ∗ sPts c s b q f)

/-- Piece `k` of slot `j + 1` of device `d` for batch `b`: free to be overwritten; -/
def land (d : Dev nD) (b : Fin 2) (k : Fin 3) (j : Fin 3) : sProp 𝕄 :=
  match k with
  | 0 => iprop(∃ f, cPts d j.succ b 0 fullShare f)
  | 1 => iprop(∃ f, cPts d j.succ b 1 fullShare f)
  | 2 => iprop(∃ f, sPts d j.succ b fullShare f)
/-- filled; -/
def got (d : Dev nD) (b : Fin 2) (k : Fin 3) (j : Fin 3) : sProp 𝕄 :=
  match k with
  | 0 => cPts d j.succ b 0 fullShare (CTX m d)
  | 1 => cPts d j.succ b 1 fullShare (CTX m d)
  | 2 => sHas m d j.succ b fullShare
/-- and the share of piece `k` of its own slot that goes with its transfer number `j`. -/
def lent (d : Dev nD) (b : Fin 2) (k : Fin 3) (j : Fin 3) : sProp 𝕄 :=
  match k with
  | 0 => cPts d 0 b 0 (shr j) (CTX m d)
  | 1 => cPts d 0 b 1 (shr j) (CTX m d)
  | 2 => sHas m d 0 b (shr j)

/-- All of slot `j + 1` of device `d`, free. -/
def lands (d : Dev nD) (j : Fin 3) : sProp 𝕄 :=
  bigSep Finset.univ fun x : Fin 2 × Fin 3 => land d x.1 x.2 j

instance cPts_storable (c : Dev nD) (s b w q f) : BI.Storable (upEmb : UEmb _ 𝕄) (cPts (F := F) c s b w q f) := by unfold cPts; infer_instance
instance sPts_storable (c : Dev nD) (s b q f) : BI.Storable (upEmb : UEmb _ 𝕄) (sPts (F := F) c s b q f) := by unfold sPts; infer_instance
instance sHas_storable (c : Dev nD) (s b q) : BI.Storable (upEmb : UEmb _ 𝕄) (sHas m c s b q) := by unfold sHas; infer_instance
instance land_storable (d : Dev nD) (b k j) : BI.Storable (upEmb : UEmb _ 𝕄) (land (F := F) d b k j) := by unfold land; split <;> infer_instance
instance got_storable (d : Dev nD) (b k j) : BI.Storable (upEmb : UEmb _ 𝕄) (got m d b k j) := by unfold got; split <;> infer_instance
instance lent_storable (d : Dev nD) (b k j) : BI.Storable (upEmb : UEmb _ 𝕄) (lent m d b k j) := by unfold lent; split <;> infer_instance
instance lands_storable (d : Dev nD) (j) : BI.Storable (upEmb : UEmb _ 𝕄) (lands (F := F) d j) := by unfold lands; infer_instance

/-! ## The schedule -/

abbrev kcell (ck : Dev nD × Ck) : GSem nD τ sig := ((ck.1 : Thread nD τ), csem ck.2)

/-- Which cell of the exchange a semaphore is, if any. -/
def dec (s : SemLoc sig) : Option Ck := by
  classical
  exact if h : ∃ k, csem k = s then some h.choose else none
theorem dec_csem (k : Ck) : dec (csem k) = some k := by
  have h : ∃ k', csem k' = csem k := ⟨k, rfl⟩
  unfold dec; rw [dif_pos h]; exact congrArg some (csem_inj h.choose_spec)

/-- The credit of a transfer of piece `k`. -/
def amt (k : Fin 3) : ℕ := if k = 2 then (sM 0 0).view.dmaCredit else (cM 0 0 0).view.dmaCredit
theorem amt_pos (k : Fin 3) : 0 < amt k := by
  unfold amt; split
  · exact View.dmaCredit_pos _ (by decide)
  · exact View.dmaCredit_pos _ (by decide)

def cellAmt : Ck → ℕ
  | none => 1
  | some y => amt y.2.2.1
/-- What duty `j` of a cell of device `c` hands over. -/
def pay (c : Dev nD) (k : Ck) (j : Fin 3) : sProp 𝕄 :=
  match k with
  | none => lands (pl c j.rev) j
  | some (false, x) => lent m c x.1 x.2.1 x.2.2
  | some (true, x) => got m c x.1 x.2.1 x.2.2
instance pay_storable (c : Dev nD) (k j) : BI.Storable (upEmb : UEmb _ 𝕄) (pay m c k j) := by unfold pay; split <;> infer_instance

def ring : Rounds.Schedule (GSem nD τ sig) (Fin 3) 𝕄 where
  duties g r := if r = 0 ∧ g.1.2 = .tc then (match dec g.2 with | none => ∅ | some none => Finset.univ | some (some _) => {0}) else ∅
  unitless _ := False
  amount g _ _ := match dec g.2 with | none => 1 | some k => cellAmt k
  payload g _ j := match dec g.2 with | none => iprop(emp) | some k => pay m g.1.1 k j
  amount_pos g _ _ _ := by
    rcases dec g.2 with _ | _ | y
    · exact Nat.one_pos
    · exact Nat.one_pos
    · exact amt_pos _

instance ring_payload_storable (g : GSem nD τ sig) (r : ℕ) (d : Fin 3) : BI.Storable (upEmb : UEmb _ 𝕄) ((ring (F := F) m).payload g r d) := by
  show BI.Storable upEmb (match dec g.2 with | none => iprop(emp) | some k => pay m g.1.1 k d)
  split <;> infer_instance

theorem duties_bar (c : Dev nD) : (ring (F := F) m).duties (kcell (c, none)) 0 = Finset.univ := by
  dsimp only [ring]; rw [if_pos ⟨rfl, rfl⟩, dec_csem]
theorem duties_xfer (c : Dev nD) (y : Bool × Tr) : (ring (F := F) m).duties (kcell (c, some y)) 0 = {0} := by
  dsimp only [ring]; rw [if_pos ⟨rfl, rfl⟩, dec_csem]
theorem duties_later (g : GSem nD τ sig) : ∀ r, 1 ≤ r → (ring (F := F) m).duties g r = ∅ :=
  fun r hr => by dsimp only [ring]; rw [if_neg fun h => by omega]
theorem amount_cell (c : Dev nD) (k : Ck) (j : Fin 3) : (ring (F := F) m).amount (kcell (c, k)) 0 j = cellAmt k := by
  dsimp only [ring]; rw [dec_csem]
theorem payload_cell (c : Dev nD) (k : Ck) (j : Fin 3) : (ring (F := F) m).payload (kcell (c, k)) 0 j = pay m c k j := by
  dsimp only [ring]; rw [dec_csem]
theorem expect_bar (c : Dev nD) : (ring (F := F) m).expect (kcell (c, none)) 0 = 3 := by
  unfold Schedule.expect Schedule.amountOf
  rw [duties_bar, Finset.sum_congr rfl fun d _ => amount_cell m c none d]; rfl
theorem expect_xfer (c : Dev nD) (y : Bool × Tr) : (ring (F := F) m).expect (kcell (c, some y)) 0 = amt y.2.2.1 := by
  unfold Schedule.expect Schedule.amountOf; rw [duties_xfer, Finset.sum_singleton, amount_cell]; rfl

theorem bigSep_fin3 (Φ : Fin 3 → sProp 𝕄) : bigSep Finset.univ Φ = iprop(Φ 0 ∗ Φ 1 ∗ Φ 2) := bigSep_univ_eq_bigSepL [0, 1, 2] (by decide) (by decide) Φ

theorem rest_bar (c : Dev nD) : bigSep ((ring (F := F) m).duties (kcell (c, none)) 0 \ ∅) (fun d => (ring (F := F) m).payload (kcell (c, none)) 0 d)
    = iprop(lands (pl c 2) 0 ∗ lands (pl c 1) 1 ∗ lands (pl c 0) 2) := by
  rw [Finset.sdiff_empty, duties_bar, bigSep_fin3, payload_cell, payload_cell, payload_cell]; rfl
theorem rest_xfer (c : Dev nD) (y : Bool × Tr) : bigSep ((ring (F := F) m).duties (kcell (c, some y)) 0 \ ∅) (fun d => (ring (F := F) m).payload (kcell (c, some y)) 0 d)
    = pay m c (some y) 0 := by
  rw [Finset.sdiff_empty, duties_xfer, bigSep_singleton, payload_cell]

/-! ## Debts and levels -/

/-- What the transfers `l` of device `c` owe the peers' arrival cells. -/
def owe (c : Dev nD) : List Tr → CellTallies nD τ sig Unit
  | [] => 0
  | x :: l => owe c l + tallyAt (kcell (pl c x.2.2, some (true, (x.1, x.2.1, x.2.2.rev)))) () (amt x.2.1)

/-- The transfers of a batch in the order the kernel starts them; and of both batches. -/
def order1 (b : Fin 2) : List Tr := [(b, 0, 1), (b, 0, 0), (b, 0, 2), (b, 1, 1), (b, 2, 1), (b, 1, 0), (b, 2, 0), (b, 1, 2), (b, 2, 2)]
def order : List Tr := order1 0 ++ order1 1

def oweBar (c : Dev nD) (j : Fin 3) : CellTallies nD τ sig Unit := tallyAt (kcell (pl c j, none)) () 1
def O₀ (c : Dev nD) : CellTallies nD τ sig Unit := owe c order + oweBar c 2 + oweBar c 1 + oweBar c 0

def L (g : GSem nD τ sig) : Finset Unit := if g.1.2 = .tc then {()} else ∅
/-- Barriers at 1, arrivals at 2, everything else (staging, departures) at 0. -/
def lv (g : GSem nD τ sig) (_ : Unit) : ℕ := match dec g.2 with | some none => 1 | some (some (true, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem mem_L (g : GSem nD τ sig) (h : g.1.2 = .tc) (u : Unit) : u ∈ L g := by unfold L; rw [if_pos h]; exact Finset.mem_singleton_self _
theorem lv_bar (c : Dev nD) (u : Unit) : lv (kcell (c, none)) u = 1 := by unfold lv; rw [dec_csem]
theorem lv_arr (c : Dev nD) (x : Tr) (u : Unit) : lv (kcell (c, some (true, x))) u = 2 := by unfold lv; rw [dec_csem]

/-- A cell somebody is owed at is an arrival cell; or, before the signals, a barrier. -/
theorem owe_pos {c : Dev nD} {l : List Tr} {g : GSem nD τ sig} {u : Unit} (h : 0 < owe c l g u) : ∃ d x, g = kcell (d, some (true, x)) := by
  induction l with
  | nil => exact absurd h (Nat.lt_irrefl 0)
  | cons x l ih =>
    rw [owe, Pi.add_apply, Finsupp.add_apply, tallyAt_apply] at h
    split at h
    · next h' => exact ⟨_, _, h'.1⟩
    · exact ih h
theorem O₀_pos {c : Dev nD} {g : GSem nD τ sig} {u : Unit} (h : 0 < O₀ c g u) : (∃ d x, g = kcell (d, some (true, x))) ∨ ∃ d, g = kcell (d, none) := by
  unfold O₀ oweBar at h
  rw [Pi.add_apply, Finsupp.add_apply, Pi.add_apply, Finsupp.add_apply, Pi.add_apply, Finsupp.add_apply, tallyAt_apply, tallyAt_apply, tallyAt_apply] at h
  by_cases h0 : 0 < owe c order g u
  · exact Or.inl (owe_pos h0)
  · refine Or.inr ?_
    split at h
    · next h' => exact ⟨_, h'.1⟩
    · split at h
      · next h' => exact ⟨_, h'.1⟩
      · split at h
        · next h' => exact ⟨_, h'.1⟩
        · exact absurd h (by omega)

/-- A wait at level 0 may be made owing everything; -/
theorem mayWait_low (c : Dev nD) (s : SemLoc sig) (hs : ∀ u, lv ((c : Thread nD τ), s) u = 0) (O : CellTallies nD τ sig Unit) (hO : O = O₀ c ∨ O = 0) :
    (levAts L lv : sProp 𝕄) ⊢ MayWait (c : Thread nD τ) s () O := by
  rcases hO with rfl | rfl
  · refine Pipeline.mayWait_of_levAts (mem_L _ rfl ()) fun g u h => ?_
    rcases O₀_pos h with ⟨d, x, rfl⟩ | ⟨d, rfl⟩
    · exact ⟨mem_L _ rfl u, by rw [hs, lv_arr]; decide⟩
    · exact ⟨mem_L _ rfl u, by rw [hs, lv_bar]; decide⟩
  · rw [MayWait_zero]; iintro -; iempintro

/-- the barrier's owing the transfers. -/
theorem mayWait_bar (c : Dev nD) (l : List Tr) : (levAts L lv : sProp 𝕄) ⊢ MayWait (c : Thread nD τ) (csem none) () (owe c l) :=
  Pipeline.mayWait_of_levAts (mem_L _ rfl ()) fun g u h => by
    obtain ⟨d, x, rfl⟩ := owe_pos h
    exact ⟨mem_L _ rfl u, by rw [show lv ((c : Thread nD τ), csem none) () = 1 from lv_bar c (), lv_arr]; decide⟩

end Cert.KernelIdeal.Attn

end
-- ==== Proof.Steps.lean ====
/-
# The kernel's steps

One rule for each kind of step the body takes, at the cells and pieces of the exchange: the signal and the wait of the
entry handshake, a transfer started, an arrival and a departure awaited, the loads of the landed slots, and the stores
that fill the device's own slot and its result.
-/
module

public import proofs.«01_k».proof.Proof.Cells

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program on device `c`'s TensorCore. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Ck → ℕ)

/-- Every cell's invariant, and that every cell has reached its round. -/
def records : sProp 𝕄 :=
  iprop((bigSep Finset.univ fun ck : Dev nD × Ck => cellInv ER (ring m) (K ck) (kcell ck))
    ∗ bigSep Finset.univ fun ck : Dev nD × Ck => reached ER (kcell ck) 0)

instance records_persistent : BI.Persistent (records m K) := by unfold records; infer_instance

theorem records_inv (ck : Dev nD × Ck) : records m K ⊢ cellInv ER (ring m) (K ck) (kcell ck) := by
  unfold records; exact sep_elim_left.trans (bigSep_elim (Φ := fun ck : Dev nD × Ck => cellInv ER (ring m) (K ck) (kcell ck)) (Finset.mem_univ ck))
theorem records_reached (ck : Dev nD × Ck) : records m K ⊢ (reached ER (kcell ck) 0 : sProp 𝕄) := by
  unfold records; exact sep_elim_right.trans (bigSep_elim (Φ := fun ck : Dev nD × Ck => reached ER (kcell ck) 0) (Finset.mem_univ ck))

/-- Device `c` owes `O`, whatever it has waited for. -/
def owing (c : Dev nD) (O : CellTallies nD τ sig Unit) : sProp 𝕄 := iprop(∃ W, owes (c : Thread nD τ) O W)

/-- The right to start transfer `x`; what is kept of a transfer started until it has departed; what awaits an arrival. -/
def ticket (c : Dev nD) (x : Tr) : sProp 𝕄 :=
  iprop(dutyTok ER (kcell (c, some (false, x))) 0 0 ∗ dutyTok ER (kcell (pl c x.2.2, some (true, (x.1, x.2.1, x.2.2.rev)))) 0 0
    ∗ atPos ER (kcell (c, some (false, x))) 0 ∅ 0)
def away (c : Dev nD) (x : Tr) : sProp 𝕄 :=
  iprop(cred (tallyAt (kcell (c, some (false, x))) () (amt x.2.1)) ∗ atPos ER (kcell (c, some (false, x))) 0 ∅ 0)
def due (c : Dev nD) (x : Tr) : sProp 𝕄 :=
  iprop(cred (tallyAt (kcell (c, some (true, x))) () (amt x.2.1)) ∗ atPos ER (kcell (c, some (true, x))) 0 ∅ 0)

/-! ## Where the pieces lie -/

theorem cM_emb (s : Fin 4) (b w : Fin 2) (y : S128x256.Idx) :
    (((cM s b w).view.emb y : S4x2x256x256.Idx) 0).val = s.val ∧ (((cM s b w).view.emb y : S4x2x256x256.Idx) 1).val = b.val := by
  have h : (cM s b w).view.emb y ∈ cSet s b w := by rw [← cM_set]; exact View.emb_mem_set _ y
  exact ⟨(mem_cSet.mp h).1, (mem_cSet.mp h).2.1⟩
theorem sM_emb (s : Fin 4) (b : Fin 2) (y : S8x256.Idx) :
    (((sM s b).view.emb y : S4x2x8x256.Idx) 0).val = s.val ∧ (((sM s b).view.emb y : S4x2x8x256.Idx) 1).val = b.val := by
  have h : (sM s b).view.emb y ∈ sSet s b := by rw [← sM_set]; exact View.emb_mem_set _ y
  exact mem_sSet.mp h

/-- Two slots' pieces lay one index in the same row and column. -/
theorem cM_emb_same (s s' : Fin 4) (b w : Fin 2) (y : S128x256.Idx) (a : Fin 4) (ha : a ≠ 0) :
    (((cM s b w).view.emb y : S4x2x256x256.Idx) a).val = (((cM s' b w).view.emb y : S4x2x256x256.Idx) a).val := by
  show ((cRect s b w).emb _ a).val = ((cRect s' b w).emb _ a).val
  rw [Rect.emb_apply, Rect.emb_apply]
  fin_cases a
  · exact absurd rfl ha
  · rfl
  · rfl
  · rfl
theorem sM_emb_same (s s' : Fin 4) (b : Fin 2) (y : S8x256.Idx) (a : Fin 4) (ha : a ≠ 0) :
    (((sM s b).view.emb y : S4x2x8x256.Idx) a).val = (((sM s' b).view.emb y : S4x2x8x256.Idx) a).val := by
  show ((sRect s b).emb _ a).val = ((sRect s' b).emb _ a).val
  rw [Rect.emb_apply, Rect.emb_apply]
  fin_cases a
  · exact absurd rfl ha
  · rfl
  · rfl
  · rfl

theorem dv_home (c : Dev nD) (j : Fin 3) : dv (pl c j) j.rev.succ.val = c := pl_rev c j

/-- What a device's own slot holds is what the slot it fills at a peer is to hold. -/
theorem CTX_sent (c : Dev nD) (b w : Fin 2) (j : Fin 3) (y : S128x256.Idx) :
    CTX m (pl c j) ((cM j.rev.succ b w).view.emb y) = CTX m c ((cM 0 b w).view.emb y) := by
  unfold CTX
  rw [(cM_emb j.rev.succ b w y).1, (cM_emb 0 b w y).1, dv_home, show dv c (0 : Fin 4).val = c from dv_zero c,
    show (((cM j.rev.succ b w).view.emb y : S4x2x256x256.Idx) 1) = ((cM 0 b w).view.emb y : S4x2x256x256.Idx) 1 from Fin.ext (cM_emb_same _ _ _ _ _ 1 (by decide)),
    show (((cM j.rev.succ b w).view.emb y : S4x2x256x256.Idx) 2) = ((cM 0 b w).view.emb y : S4x2x256x256.Idx) 2 from Fin.ext (cM_emb_same _ _ _ _ _ 2 (by decide)),
    show (((cM j.rev.succ b w).view.emb y : S4x2x256x256.Idx) 3) = ((cM 0 b w).view.emb y : S4x2x256x256.Idx) 3 from Fin.ext (cM_emb_same _ _ _ _ _ 3 (by decide))]
theorem DEN_sent (c : Dev nD) (b : Fin 2) (j : Fin 3) (y : S8x256.Idx) :
    DEN m (pl c j) ((sM j.rev.succ b).view.emb y) = DEN m c ((sM 0 b).view.emb y) := by
  unfold DEN
  rw [(sM_emb j.rev.succ b y).1, (sM_emb 0 b y).1, dv_home, show dv c (0 : Fin 4).val = c from dv_zero c,
    show (((sM j.rev.succ b).view.emb y : S4x2x8x256.Idx) 1) = ((sM 0 b).view.emb y : S4x2x8x256.Idx) 1 from Fin.ext (sM_emb_same _ _ _ _ 1 (by decide)),
    show (((sM j.rev.succ b).view.emb y : S4x2x8x256.Idx) 2) = ((sM 0 b).view.emb y : S4x2x8x256.Idx) 2 from Fin.ext (sM_emb_same _ _ _ _ 2 (by decide)),
    show (((sM j.rev.succ b).view.emb y : S4x2x8x256.Idx) 3) = ((sM 0 b).view.emb y : S4x2x8x256.Idx) 3 from Fin.ext (sM_emb_same _ _ _ _ 3 (by decide))]

/-- A landing makes the arrival's payload. -/
theorem ctx_landed (c : Dev nD) (b w : Fin 2) (j : Fin 3) (fd : Buf (Elt F) ((pl c j : Thread nD τ).loc cc0_scratch0)) :
    ((cM j.rev.succ b w).view.loc (pl c j : Thread nD τ) ↦[(cM j.rev.succ b w).view.set]{fullShare}
        ((cM j.rev.succ b w).view.write (Elt F) fd ((cM 0 b w).view.read (Elt F) (CTX m c)) Finset.univ))
      ⊢ (got m (pl c j) b w.castSucc j.rev : sProp 𝕄) := by
  rw [show (got m (pl c j) b w.castSucc j.rev : sProp 𝕄) = cPts (pl c j) j.rev.succ b w fullShare (CTX m (pl c j)) from by fin_cases w <;> rfl, cPts]
  refine Entails.of_eq (pointsTo_congr fun i hi => ?_)
  obtain ⟨y, -, rfl⟩ := Finset.mem_map.mp hi
  rw [View.write_emb_of_mem _ _ (Finset.mem_univ y), View.read_apply, CTX_sent]
  rfl
theorem den_landed (c : Dev nD) (b : Fin 2) (j : Fin 3) (fd : Buf (Elt F) ((pl c j : Thread nD τ).loc cc0_scratch1))
    (f : Buf (Elt F) ((c : Thread nD τ).loc cc0_scratch1)) (hf : DenOk m c 0 b f) :
    ((sM j.rev.succ b).view.loc (pl c j : Thread nD τ) ↦[(sM j.rev.succ b).view.set]{fullShare}
        ((sM j.rev.succ b).view.write (Elt F) fd ((sM 0 b).view.read (Elt F) f) Finset.univ))
      ⊢ (got m (pl c j) b 2 j.rev : sProp 𝕄) := by
  show _ ⊢ (sHas m (pl c j) j.rev.succ b fullShare : sProp 𝕄)
  unfold sHas sPts
  iintro H
  iexists _
  isplitr
  rotate_left
  · iexact H
  ipureintro
  intro i h0 h1 h2
  have hi : i ∈ (sM j.rev.succ b).view.set := by rw [sM_set]; exact mem_sSet.mpr ⟨h0, h1⟩
  obtain ⟨y, -, rfl⟩ := Finset.mem_map.mp hi
  rw [View.write_emb_of_mem _ _ (Finset.mem_univ y), View.read_apply, DEN_sent, ← hf _ (sM_emb 0 b y).1 (sM_emb 0 b y).2 ?_]
  · rfl
  · exact lt_of_eq_of_lt (sM_emb_same 0 j.rev.succ b y 2 (by decide)) h2

/-! ## Transfers -/

theorem amt_ctx (s : Fin 4) (b w : Fin 2) (q : DmaSem sig) : (cM s b w).view.amount (.dma q) = amt w.castSucc := by
  rw [amt, if_neg (by revert w; decide)]
theorem amt_den (s : Fin 4) (b : Fin 2) (q : DmaSem sig) : (sM s b).view.amount (.dma q) = amt 2 := rfl
theorem land_ctx (d : Dev nD) (b w : Fin 2) (j : Fin 3) : (land (F := F) d b w.castSucc j : sProp 𝕄) = iprop(∃ f, cPts d j.succ b w fullShare f) := by
  fin_cases w <;> rfl
theorem lent_ctx (d : Dev nD) (b w : Fin 2) (j : Fin 3) : (lent m d b w.castSucc j : sProp 𝕄) = cPts d 0 b w (shr j) (CTX m d) := by
  fin_cases w <;> rfl
theorem got_ctx (d : Dev nD) (b w : Fin 2) (j : Fin 3) : (got m d b w.castSucc j : sProp 𝕄) = cPts d j.succ b w fullShare (CTX m d) := by
  fin_cases w <;> rfl

theorem mem_duty (c : Dev nD) (y : Bool × Tr) : (0 : Fin 3) ∈ (ring (F := F) m).duties ((c : Thread nD τ), csem (some y)) 0 := by
  rw [show (((c : Thread nD τ), csem (some y)) : GSem nD τ sig) = kcell (c, some y) from rfl, duties_xfer]; exact Finset.mem_singleton_self _
theorem pay_duty (c : Dev nD) (y : Bool × Tr) : (ring (F := F) m).payload ((c : Thread nD τ), csem (some y)) 0 0 = pay m c (some y) 0 := payload_cell m c (some y) 0

theorem lent_den (c : Dev nD) (b : Fin 2) (j : Fin 3) (f : Buf (Elt F) ((c : Thread nD τ).loc cc0_scratch1)) (hf : DenOk m c 0 b f) :
    ((sM 0 b).view.loc (c : Thread nD τ) ↦[(sM 0 b).view.set]{shr j} f) ⊢ (lent m c b 2 j : sProp 𝕄) := by
  show _ ⊢ (sHas m c 0 b (shr j) : sProp 𝕄)
  unfold sHas sPts
  iintro H
  iexists f
  isplitr; · ipureintro; exact hf
  iexact H

attribute [local irreducible] amt

section Put

variable (c n : Dev nD) (b w : Fin 2) (j : Fin 3) (hn : n = pl c j)
include hn

/-- A half of the context started on its way to the peer `j + 1` places on. -/
theorem wp_put_ctx (l : List Tr) {sS rS : DmaSem sig} (hS : sS = sndSem (b, w.castSucc, j)) (hR : rS = rcvSem (b, w.castSucc, j.rev))
    {hsc : (cM j.rev.succ b w : Memref sig (Dev.tc n : Thread nD τ).2.kind .vmem S128x256 .bf16).view.ref.isScScratch = false}
    {hsrc : (cM 0 b w).view.WordExact} {hdst : (cM j.rev.succ b w).view.WordExact}
    {hsem : DmaTarget.Typed .vmem (.dma rS) (.remote (Dev.tc n : Thread nD τ) (cM j.rev.succ b w : Memref sig .tc .vmem S128x256 .bf16) (.dma sS) hsc)}
    {α : Type} {Q : α → sProp 𝕄} {k : PUnit → Prog (TpuEff nD τ sig (Elt F) Λ₀ .tc) α} :
    iprop(records m K ∗ ticket c (b, w.castSucc, j) ∗ land (pl c j) b w.castSucc j.rev ∗ lent m c b w.castSucc j
        ∗ owing c (owe c ((b, w.castSucc, j) :: l)))
      ⊢ iprop(((away c (b, w.castSucc, j) ∗ owing c (owe c l)) -∗ run c (k ⟨⟩) Q)
          -∗ run c (.op (.enqueueDma (cM 0 b w) (.remote (Dev.tc n : Thread nD τ) (cM j.rev.succ b w) (.dma sS) hsc) (.dma rS) hsrc hdst hsem) k) Q) := by
  subst hn hS hR
  rw [land_ctx, lent_ctx]
  unfold ticket away owing
  iintro ⟨#HR, ⟨Ht1, Ht2, Hat⟩, ⟨%fd, Hd⟩, Hs, ⟨%W, HO⟩⟩ Hk
  unfold cPts
  iapply (Rounds.wp_send_pointsTo 𝒱₀ ER (ring m) (c : Thread nD τ) none (c' := (Dev.tc (pl c j) : Thread nD τ))
    (sS := csem (some (false, (b, w.castSucc, j)))) (sem := csem (some (true, (b, w.castSucc, j.rev))))
    (κ₁ := K (c, some (false, (b, w.castSucc, j)))) (κ₂ := K (pl c j, some (true, (b, w.castSucc, j.rev))))
    (r₁ := 0) (r₂ := 0) (d₁ := 0) (d₂ := 0) (fd := fd)
    (mem_duty m c _) (mem_duty m (pl c j) _)
    () () (amt w.castSucc) (amt_ctx _ _ _ _) (amount_cell m c (some (false, (b, w.castSucc, j))) 0) (amount_cell m (pl c j) (some (true, (b, w.castSucc, j.rev))) 0)
    (owe c l) rfl (W := W)
    (by rw [pay_duty]; exact Entails.of_eq (lent_ctx m c b w j).symm)
    (by rw [pay_duty]; exact ctx_landed m c b w j fd))
    $$ [Ht1 Ht2 Hd Hs HO]
  · isplitr; · iapply (records_inv m K (c, some (false, (b, w.castSucc, j)))); iexact HR
    isplitr; · iapply (records_inv m K (pl c j, some (true, (b, w.castSucc, j.rev)))); iexact HR
    isplitl [Hs]; · iexact Hs
    isplitl [Hd]; · iexact Hd
    isplitl [HO]; · iexact HO
    isplitl [Ht1]; · iexact Ht1
    isplitr; · iapply (records_reached m K (c, some (false, (b, w.castSucc, j)))); iexact HR
    isplitl [Ht2]; · iexact Ht2
    iapply (records_reached m K (pl c j, some (true, (b, w.castSucc, j.rev)))); iexact HR
  iintro ⟨Hc, HO⟩
  iapply Hk
  isplitl [Hc Hat]
  · isplitl [Hc]; · iexact Hc
    iexact Hat
  iexists W; iexact HO

/-- A batch's denominators started on their way there. -/
theorem wp_put_den (l : List Tr) {sS rS : DmaSem sig} (hS : sS = sndSem (b, 2, j)) (hR : rS = rcvSem (b, 2, j.rev))
    {hsc : (sM j.rev.succ b : Memref sig (Dev.tc n : Thread nD τ).2.kind .vmem S8x256 .f32).view.ref.isScScratch = false}
    {hsrc : (sM 0 b).view.WordExact} {hdst : (sM j.rev.succ b).view.WordExact}
    {hsem : DmaTarget.Typed .vmem (.dma rS) (.remote (Dev.tc n : Thread nD τ) (sM j.rev.succ b : Memref sig .tc .vmem S8x256 .f32) (.dma sS) hsc)}
    {α : Type} {Q : α → sProp 𝕄} {k : PUnit → Prog (TpuEff nD τ sig (Elt F) Λ₀ .tc) α} :
    iprop(records m K ∗ ticket c (b, 2, j) ∗ land (pl c j) b 2 j.rev ∗ lent m c b 2 j
        ∗ owing c (owe c ((b, 2, j) :: l)))
      ⊢ iprop(((away c (b, 2, j) ∗ owing c (owe c l)) -∗ run c (k ⟨⟩) Q)
          -∗ run c (.op (.enqueueDma (sM 0 b) (.remote (Dev.tc n : Thread nD τ) (sM j.rev.succ b) (.dma sS) hsc) (.dma rS) hsrc hdst hsem) k) Q) := by
  subst hn hS hR
  rw [show (land (F := F) (pl c j) b 2 j.rev : sProp 𝕄) = iprop(∃ f, sPts (pl c j) j.rev.succ b fullShare f) from rfl,
    show (lent m c b 2 j : sProp 𝕄) = iprop(∃ f, ⌜DenOk m c 0 b f⌝ ∗ sPts c 0 b (shr j) f) from rfl]
  unfold ticket away owing
  iintro ⟨#HR, ⟨Ht1, Ht2, Hat⟩, ⟨%fd, Hd⟩, ⟨%f, %hf, Hs⟩, ⟨%W, HO⟩⟩ Hk
  unfold sPts
  iapply (Rounds.wp_send_pointsTo 𝒱₀ ER (ring m) (c : Thread nD τ) none (c' := (Dev.tc (pl c j) : Thread nD τ))
    (sS := csem (some (false, (b, 2, j)))) (sem := csem (some (true, (b, 2, j.rev))))
    (κ₁ := K (c, some (false, (b, 2, j)))) (κ₂ := K (pl c j, some (true, (b, 2, j.rev))))
    (r₁ := 0) (r₂ := 0) (d₁ := 0) (d₂ := 0) (fd := fd)
    (mem_duty m c _) (mem_duty m (pl c j) _)
    () () (amt 2) (amt_den _ _ _) (amount_cell m c (some (false, (b, 2, j))) 0) (amount_cell m (pl c j) (some (true, (b, 2, j.rev))) 0)
    (owe c l) rfl (W := W)
    (by rw [pay_duty]; exact lent_den m c b j f hf)
    (by rw [pay_duty]; exact den_landed m c b j fd f hf))
    $$ [Ht1 Ht2 Hd Hs HO]
  · isplitr; · iapply (records_inv m K (c, some (false, (b, 2, j)))); iexact HR
    isplitr; · iapply (records_inv m K (pl c j, some (true, (b, 2, j.rev)))); iexact HR
    isplitl [Hs]; · iexact Hs
    isplitl [Hd]; · iexact Hd
    isplitl [HO]; · iexact HO
    isplitl [Ht1]; · iexact Ht1
    isplitr; · iapply (records_reached m K (c, some (false, (b, 2, j)))); iexact HR
    isplitl [Ht2]; · iexact Ht2
    iapply (records_reached m K (pl c j, some (true, (b, 2, j.rev)))); iexact HR
  iintro ⟨Hc, HO⟩
  iapply Hk
  isplitl [Hc Hat]
  · isplitl [Hc]; · iexact Hc
    iexact Hat
  iexists W; iexact HO

end Put

/-- A wait for a transfer's cell to fill, nothing owed: what the cell holds is handed over, and the cell is closed. -/
theorem wp_wait_cell (c : Dev nD) (y : Bool × Tr) {q : DmaSem sig} (hq : (.dma q : SemLoc sig) = csem (some y))
    {s s' : Shape} {e e' : EltTy} {src : Memref sig .tc .vmem s' e'} {dst : Memref sig .tc .vmem s e} {hsrc : src.view.WordExact} {hdst : dst.view.WordExact}
    (ha : dst.view.dmaCredit = amt y.2.2.1)
    {α : Type} {Q : α → sProp 𝕄} {k : PUnit → Prog (TpuEff nD τ sig (Elt F) Λ₀ .tc) α} :
    iprop(records m K ∗ (cred (tallyAt (kcell (c, some y)) () (amt y.2.2.1)) ∗ atPos ER (kcell (c, some y)) 0 ∅ 0) ∗ owing c 0)
      ⊢ iprop(((pay m c (some y) 0 ∗ semVal (kcell (c, some y)) 0 ∗ owing c 0) -∗ run c (k ⟨⟩) Q)
          -∗ run c (.op (.waitDma2 q src dst hsrc hdst) k) Q) := by
  unfold owing
  iintro ⟨#HR, ⟨Hc, Hat⟩, ⟨%W, HO⟩⟩ Hk
  iapply (Rounds.wp_wait_rest_token 𝒱₀ ER (ring m) (c : Thread nD τ) none (sm := csem (some y)) (k' := amt y.2.2.1) (κ := K (c, some y))
      (fun P => by rw [wpE_waitDma2_eq 𝒱₀ (c : Thread nD τ) none Set.univ P, hq, ha]) (Set.mem_univ _) () (O := 0) (W := W) (R := 0) (m := 0) (T := ∅)
      (by rw [Nat.zero_add]; exact (expect_xfer m c y).symm)) $$ [Hc HO Hat]
  · isplitr; · iapply (records_inv m K (c, some y)); iexact HR
    isplitl [Hc]; · iexact Hc
    isplitl [HO]; · iexact HO
    isplitr; · rw [MayWait_zero]; iempintro
    iexact Hat
  iintro ⟨HO, Hat, -, Hpay⟩
  ihave Hp := (Entails.of_eq (rest_xfer m c y)) $$ Hpay
  imod (Rounds.cell_close ER (ring m) (g := kcell (c, some y)) (Set.mem_univ (K (c, some y))) (fun h => h) (R := 0 + 1) (duties_later m (kcell (c, some y)))) $$ [Hat] with Hz
  · isplitr; · iapply (records_inv m K (c, some y)); iexact HR
    iexact Hat
  iapply Hk
  isplitl [Hp]; · iexact Hp
  isplitl [Hz]; · iexact Hz
  iexists _; iexact HO

/-- An arrival awaited. -/
theorem wp_got (c : Dev nD) (x : Tr) {q : DmaSem sig} (hq : q = rcvSem x)
    {s s' : Shape} {e e' : EltTy} {src : Memref sig .tc .vmem s' e'} {dst : Memref sig .tc .vmem s e} {hsrc : src.view.WordExact} {hdst : dst.view.WordExact}
    (ha : dst.view.dmaCredit = amt x.2.1)
    {α : Type} {Q : α → sProp 𝕄} {k : PUnit → Prog (TpuEff nD τ sig (Elt F) Λ₀ .tc) α} :
    iprop(records m K ∗ due c x ∗ owing c 0)
      ⊢ iprop(((got m c x.1 x.2.1 x.2.2 ∗ semVal (kcell (c, some (true, x))) 0 ∗ owing c 0) -∗ run c (k ⟨⟩) Q)
          -∗ run c (.op (.waitDma2 q src dst hsrc hdst) k) Q) :=
  wp_wait_cell m K c (true, x) (by rw [hq]; rfl) ha
/-- A departure awaited. -/
theorem wp_back (c : Dev nD) (x : Tr) {q : DmaSem sig} (hq : q = sndSem x)
    {s s' : Shape} {e e' : EltTy} {src : Memref sig .tc .vmem s' e'} {dst : Memref sig .tc .vmem s e} {hsrc : src.view.WordExact} {hdst : dst.view.WordExact}
    (ha : dst.view.dmaCredit = amt x.2.1)
    {α : Type} {Q : α → sProp 𝕄} {k : PUnit → Prog (TpuEff nD τ sig (Elt F) Λ₀ .tc) α} :
    iprop(records m K ∗ away c x ∗ owing c 0)
      ⊢ iprop(((lent m c x.1 x.2.1 x.2.2 ∗ semVal (kcell (c, some (false, x))) 0 ∗ owing c 0) -∗ run c (k ⟨⟩) Q)
          -∗ run c (.op (.waitDma2 q src dst hsrc hdst) k) Q) :=
  wp_wait_cell m K c (false, x) (by rw [hq]; rfl) ha

/-! ## The entry handshake -/

theorem sig_pay (c : Dev nD) (j : Fin 3) :
    (lands c j : sProp 𝕄) ⊢ (ring (F := F) m).payload ((pl c j : Thread nD τ), .reg barS) 0 j := by
  refine Entails.of_eq ((payload_cell m (pl c j) none j).trans ?_).symm
  show lands (pl (pl c j) j.rev) j = lands c j
  rw [pl_rev]

/-- The signal to the peer `j + 1` places on, with this device's slot `j + 1` for that peer to fill. -/
theorem wp_sig (c n : Dev nD) (j : Fin 3) (hn : n = pl c j) (O : CellTallies nD τ sig Unit)
    {α : Type} {Q : α → sProp 𝕄} {k : PUnit → Prog (TpuEff nD τ sig (Elt F) Λ₀ .tc) α} :
    iprop(records m K ∗ dutyTok ER (kcell (pl c j, none)) 0 j ∗ lands c j ∗ owing c (O + oweBar c j))
      ⊢ iprop((owing c O -∗ run c (k ⟨⟩) Q) -∗ run c (.op (.semSignal (Dev.tc n : Thread nD τ) barS 1) k) Q) := by
  subst hn
  unfold owing
  iintro ⟨#HR, Ht, Hl, ⟨%W, HO⟩⟩ Hk
  iapply (Rounds.wp_signal 𝒱₀ ER (ring m) (c : Thread nD τ) none (dst := (pl c j : Thread nD τ)) (κ := K (pl c j, none)) (r := 0)
      (d := j) (by rw [show (((pl c j : Thread nD τ), .reg barS) : GSem nD τ sig) = kcell (pl c j, none) from rfl, duties_bar]; exact Finset.mem_univ _)
      (amount_cell m (pl c j) none j) () O rfl)
    $$ [HO Ht Hl]
  · isplitr; · iapply (records_inv m K (pl c j, none)); iexact HR
    isplitl [HO]; · iexact HO
    isplitl [Ht]; · iexact Ht
    isplitl [Hl]
    · iapply (sig_pay m c j)
      iexact Hl
    iapply (records_reached m K (pl c j, none)); iexact HR
  iintro HO
  iapply Hk
  iexists W; iexact HO

/-- The wait for the three peers: each one's slot for this device to fill. -/
theorem wp_gate (c : Dev nD) (l : List Tr)
    {α : Type} {Q : α → sProp 𝕄} {k : PUnit → Prog (TpuEff nD τ sig (Elt F) Λ₀ .tc) α} :
    iprop(records m K ∗ levAts L lv ∗ cred (tallyAt (kcell (c, none)) () 3) ∗ atPos ER (kcell (c, none)) 0 ∅ 0 ∗ owing c (owe c l))
      ⊢ iprop(((lands (pl c 2) 0 ∗ lands (pl c 1) 1 ∗ lands (pl c 0) 2 ∗ semVal (kcell (c, none)) 0 ∗ owing c (owe c l)) -∗ run c (k ⟨⟩) Q)
          -∗ run c (.op (.semWait barS 3) k) Q) := by
  unfold owing
  iintro ⟨#HR, Hlev, Hc, Hat, ⟨%W, HO⟩⟩ Hk
  iapply (Rounds.wp_wait_rest_token 𝒱₀ ER (ring m) (c : Thread nD τ) none (sm := csem none) (k' := 3) (κ := K (c, none))
      (wpE_semWait_eq 𝒱₀ (c : Thread nD τ) none Set.univ) (Set.mem_univ _) () (O := owe c l) (W := W) (R := 0) (m := 0) (T := ∅)
      (by rw [Nat.zero_add]; exact (expect_bar m c).symm)) $$ [Hlev Hc HO Hat]
  · isplitr; · iapply (records_inv m K (c, none)); iexact HR
    isplitl [Hc]; · iexact Hc
    isplitl [HO]; · iexact HO
    isplitl [Hlev]; · iapply (mayWait_bar c l); iexact Hlev
    iexact Hat
  iintro ⟨HO, Hat, -, Hpay⟩
  ihave Hp := (Entails.of_eq (rest_bar m c)) $$ Hpay
  icases Hp with ⟨H1, H2, H3⟩
  imod (Rounds.cell_close ER (ring m) (g := kcell (c, none)) (Set.mem_univ (K (c, none))) (fun h => h) (R := 0 + 1) (duties_later m (kcell (c, none)))) $$ [Hat] with Hz
  · isplitr; · iapply (records_inv m K (c, none)); iexact HR
    iexact Hat
  iapply Hk
  isplitl [H1]; · iexact H1
  isplitl [H2]; · iexact H2
  isplitl [H3]; · iexact H3
  isplitl [Hz]; · iexact Hz
  iexists _; iexact HO

end Cert.KernelIdeal.Attn

end
-- ==== Proof.Local.lean ====
/-
# Filling, reading and giving back the buffers

The device's own slot of the two landing buffers as it fills head by head; the shares of it that go with the
transfers, and their return; the slots read at the end; the result block as it is stored; and the two landing buffers
cut into their pieces and put together again.
-/
module

public import proofs.«01_k».proof.Proof.Steps
public import Idealize.ShloMosaic.Lib.Ring

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The two landing buffers of device `c`. -/
abbrev ℓc (c : Dev nD) : Loc nD τ sig := (c : Thread nD τ).loc cc0_scratch0
abbrev ℓs (c : Dev nD) : Loc nD τ sig := (c : Thread nD τ).loc cc0_scratch1

theorem cPts_eq (c : Dev nD) (s : Fin 4) (b w : Fin 2) (q : PosShare TreeShare) (f : Buf (Elt F) (ℓc c)) :
    (cPts c s b w q f : sProp 𝕄) = (ℓc c ↦[cSet s b w]{q} f) := by
  unfold cPts; rw [cM_set]
theorem sPts_eq (c : Dev nD) (s : Fin 4) (b : Fin 2) (q : PosShare TreeShare) (f : Buf (Elt F) (ℓs c)) :
    (sPts c s b q f : sProp 𝕄) = (ℓs c ↦[sSet s b]{q} f) := by
  unfold sPts; rw [sM_set]

/-! ## The own slot, filled head by head -/

theorem inb_f (b : Fin 2) (h : Fin 4) : ∀ a, (![0, b.val, 64 * h.val, 0] : Fin 4 → ℕ) a + S1x1x64x256.size a ≤ S4x2x256x256.size a := by revert b h; decide
theorem inb_g (b : Fin 2) (h : Fin 4) : ∀ a, (![0, b.val, h.val, 0] : Fin 4 → ℕ) a + S1x1x1x256.size a ≤ S4x2x8x256.size a := by revert b h; decide

/-- Head `h`'s rows of the own slot. -/
abbrev fRect (b : Fin 2) (h : Fin 4) : Rect S4x2x256x256 := Rect.unit (s := S4x2x256x256) ![0, b.val, 64 * h.val, 0] S1x1x64x256.size (inb_f b h)
abbrev gRect (b : Fin 2) (h : Fin 4) : Rect S4x2x8x256 := Rect.unit (s := S4x2x8x256) ![0, b.val, h.val, 0] S1x1x1x256.size (inb_g b h)

/-- Half `w` of the own slot with `n` of its two heads in; the denominators with `n` of the four heads in. -/
def cAcc (c : Dev nD) (b w : Fin 2) (n : ℕ) : sProp 𝕄 :=
  iprop(∃ f, ⌜∀ i : S4x2x256x256.Idx, i ∈ cSet 0 b w → (i 2).val < 128 * w.val + 64 * n → f i = CTX m c i⌝ ∗ (ℓc c ↦[cSet 0 b w]{fullShare} f))
def sAcc (c : Dev nD) (b : Fin 2) (n : ℕ) : sProp 𝕄 :=
  iprop(∃ f, ⌜∀ i : S4x2x8x256.Idx, i ∈ sSet 0 b → (i 2).val < n → f i = DEN m c i⌝ ∗ (ℓs c ↦[sSet 0 b]{fullShare} f))

theorem emb_unit {s : Shape} {off sz : Fin s.rank → ℕ} (h : ∀ a, off a + sz a ≤ s.size a) (y : (Rect.unit off sz h).shape.Idx) (a : Fin s.rank) :
    ((Rect.unit off sz h).emb y a).val = off a + (y a).val := by
  rw [Rect.emb_apply]
  show off a + 1 * (y a).val = _
  rw [Nat.one_mul]

theorem fRect_mem {b : Fin 2} {h : Fin 4} {i : S4x2x256x256.Idx} :
    i ∈ (fRect b h).set ↔ (i 0).val = 0 ∧ (i 1).val = b.val ∧ (i 2).val / 64 = h.val := by
  rw [Rect.mem_set_unit]
  have h3 : (i 3).val < 256 := (i 3).isLt
  constructor
  · intro H
    have h0 := H 0; have h1 := H 1; have h2 := H 2
    change 0 ≤ (i 0).val ∧ (i 0).val < 0 + 1 at h0
    change b.val ≤ (i 1).val ∧ (i 1).val < b.val + 1 at h1
    change 64 * h.val ≤ (i 2).val ∧ (i 2).val < 64 * h.val + 64 at h2
    omega
  · rintro ⟨h0, h1, h2⟩ a
    have a0 : 0 ≤ (i 0).val ∧ (i 0).val < 0 + 1 := by omega
    have a1 : b.val ≤ (i 1).val ∧ (i 1).val < b.val + 1 := by omega
    have a2 : 64 * h.val ≤ (i 2).val ∧ (i 2).val < 64 * h.val + 64 := by omega
    have a3 : 0 ≤ (i 3).val ∧ (i 3).val < 0 + 256 := by omega
    fin_cases a
    · exact a0
    · exact a1
    · exact a2
    · exact a3
theorem gRect_mem {b : Fin 2} {h : Fin 4} {i : S4x2x8x256.Idx} :
    i ∈ (gRect b h).set ↔ (i 0).val = 0 ∧ (i 1).val = b.val ∧ (i 2).val = h.val := by
  rw [Rect.mem_set_unit]
  have h3 : (i 3).val < 256 := (i 3).isLt
  constructor
  · intro H
    have h0 := H 0; have h1 := H 1; have h2 := H 2
    change 0 ≤ (i 0).val ∧ (i 0).val < 0 + 1 at h0
    change b.val ≤ (i 1).val ∧ (i 1).val < b.val + 1 at h1
    change h.val ≤ (i 2).val ∧ (i 2).val < h.val + 1 at h2
    omega
  · rintro ⟨h0, h1, h2⟩ a
    have a0 : 0 ≤ (i 0).val ∧ (i 0).val < 0 + 1 := by omega
    have a1 : b.val ≤ (i 1).val ∧ (i 1).val < b.val + 1 := by omega
    have a2 : h.val ≤ (i 2).val ∧ (i 2).val < h.val + 1 := by omega
    have a3 : 0 ≤ (i 3).val ∧ (i 3).val < 0 + 256 := by omega
    fin_cases a
    · exact a0
    · exact a1
    · exact a2
    · exact a3

/-- What head `h` writes is what its rows are to hold. -/
theorem hCtx_at (c : Dev nD) (b : Fin 2) (h : Fin 4) (y : S1x1x64x256.Idx) : hCtx m c b h y = CTX m c ((fRect b h).emb y) := by
  have e0 : (((fRect b h).emb y : S4x2x256x256.Idx) 0).val = 0 := (fRect_mem.mp (by rw [← Rect.map_emb_univ]; exact Finset.mem_map_of_mem _ (Finset.mem_univ y))).1
  have e1 : (((fRect b h).emb y : S4x2x256x256.Idx) 1).val = b.val + (y 1).val := emb_unit _ _ _
  have e2 : (((fRect b h).emb y : S4x2x256x256.Idx) 2).val = 64 * h.val + (y 2).val := emb_unit _ _ _
  have e3 : (((fRect b h).emb y : S4x2x256x256.Idx) 3).val = 0 + (y 3).val := emb_unit _ _ _
  have y0 : (y 0).val < 1 := (y 0).isLt
  have y1 : (y 1).val < 1 := (y 1).isLt
  have y2 : (y 2).val < 64 := (y 2).isLt
  unfold CTX ctxOf
  rw [show dv c (((fRect b h).emb y : S4x2x256x256.Idx) 0).val = c from by rw [e0, dv_zero],
    show ((fRect b h).emb y : S4x2x256x256.Idx) 1 = b from Fin.ext (by rw [e1]; omega)]
  have hh : (⟨(((fRect b h).emb y : S4x2x256x256.Idx) 2).val / 64, by rw [e2]; have := h.isLt; omega⟩ : Fin 4) = h := Fin.ext (by show _ / 64 = h.val; rw [e2]; omega)
  have hy : y = ix4 (0 : Fin 1) (0 : Fin 1) (⟨(((fRect b h).emb y : S4x2x256x256.Idx) 2).val % 64, Nat.mod_lt _ (by decide)⟩ : Fin 64) (((fRect b h).emb y : S4x2x256x256.Idx) 3) := by
    refine (eq_ix4 y).trans ?_
    congr 1
    · exact Fin.ext (by show (y 0).val = 0; omega)
    · exact Fin.ext (by show (y 1).val = 0; omega)
    · exact Fin.ext (by show (y 2).val = _ % 64; rw [e2]; omega)
    · exact Fin.ext (by show (y 3).val = _; rw [e3]; omega)
  conv_lhs => rw [hy]
  exact congrArg (fun t => hCtx m c b t _) hh.symm
theorem hDen_at (c : Dev nD) (b : Fin 2) (h : Fin 4) (y : S1x1x1x256.Idx) : hDen m c b h y = DEN m c ((gRect b h).emb y) := by
  have e0 : (((gRect b h).emb y : S4x2x8x256.Idx) 0).val = 0 := (gRect_mem.mp (by rw [← Rect.map_emb_univ]; exact Finset.mem_map_of_mem _ (Finset.mem_univ y))).1
  have e1 : (((gRect b h).emb y : S4x2x8x256.Idx) 1).val = b.val + (y 1).val := emb_unit _ _ _
  have e2 : (((gRect b h).emb y : S4x2x8x256.Idx) 2).val = h.val + (y 2).val := emb_unit _ _ _
  have e3 : (((gRect b h).emb y : S4x2x8x256.Idx) 3).val = 0 + (y 3).val := emb_unit _ _ _
  have y0 : (y 0).val < 1 := (y 0).isLt
  have y1 : (y 1).val < 1 := (y 1).isLt
  have y2 : (y 2).val < 1 := (y 2).isLt
  have h4 := h.isLt
  unfold DEN denOf
  rw [show dv c (((gRect b h).emb y : S4x2x8x256.Idx) 0).val = c from by rw [e0, dv_zero],
    show ((gRect b h).emb y : S4x2x8x256.Idx) 1 = b from Fin.ext (by rw [e1]; omega)]
  have hh : (⟨(((gRect b h).emb y : S4x2x8x256.Idx) 2).val % 4, Nat.mod_lt _ (by decide)⟩ : Fin 4) = h := Fin.ext (by show _ % 4 = h.val; rw [e2]; omega)
  have hy : y = ix4 (0 : Fin 1) (0 : Fin 1) (0 : Fin 1) (((gRect b h).emb y : S4x2x8x256.Idx) 3) := by
    refine (eq_ix4 y).trans ?_
    congr 1
    · exact Fin.ext (by show (y 0).val = 0; omega)
    · exact Fin.ext (by show (y 1).val = 0; omega)
    · exact Fin.ext (by show (y 2).val = 0; omega)
    · exact Fin.ext (by show (y 3).val = _; rw [e3]; omega)
  conv_lhs => rw [hy]
  exact congrArg (fun t => hDen m c b t _) hh.symm

/-- Head `h = 2 w + n`'s partial context stored (the rows are read first, and what is read dropped). -/
theorem wp_fill_c (c : Dev nD) (b w : Fin 2) (n : ℕ) (h : Fin 4) (hh : h.val = 2 * w.val + n) (hn : n < 2)
    {W : Vec F S1x1x64x256 .bf16} (hW : W = hCtx m c b h)
    {hl : cAll.view.LoadsAt (fRect b h).toLoadRect} {hx : (cAll.access (fRect b h)).Stores Finset.univ} {hm : (Finset.univ : Finset (fRect b h).shape.Idx) = Finset.univ ∨ ∀ a, (fRect b h).stride a = 1}
    {α : Type} {Q : α → sProp 𝕄} {k : PUnit → Prog (TpuEff nD τ sig (Elt F) Λ₀ .tc) α} :
    (cAcc m c b w n : sProp 𝕄)
      ⊢ iprop((cAcc m c b w (n + 1) -∗ run c (k ⟨⟩) Q)
          -∗ run c (.op (.load cAll (fRect b h).toLoadRect hl) fun _ => .op (.store cAll (fRect b h) W Finset.univ hx hm) k) Q) := by
  subst hW
  have hset : (cAll.access (fRect b h)).set = (fRect b h).set := View.set_slice_whole _ _
  have hsub : (fRect b h).set ⊆ cSet 0 b w := fun i hi => by
    obtain ⟨h0, h1, h2⟩ := fRect_mem.mp hi
    exact mem_cSet.mpr ⟨h0, h1, by omega⟩
  have hacc : (cAll.access (fRect b h)).setOn Finset.univ ⊆ cSet 0 b w := by rw [View.setOn_univ, hset]; exact hsub
  have hld : cAll.view.setOn (fRect b h).toLoadRect.set ⊆ cSet 0 b w := by
    show cAll.view.setOn (fRect b h).set ⊆ _
    rw [show cAll.view.setOn (fRect b h).set = (fRect b h).set from Finset.map_refl]; exact hsub
  unfold cAcc
  iintro ⟨%f, %hf, H⟩ Hk
  iapply (wp_load 𝒱₀ (c : Thread nD τ) none Set.univ (m := cAll) (S := cSet 0 b w)
    hld) $$ H
  iintro H
  iapply (wp_store 𝒱₀ (c : Thread nD τ) none Set.univ (m := cAll) (r := fRect b h) (S := cSet 0 b w)
    hacc) $$ H
  iintro H
  iapply Hk
  iexists _
  isplitr
  rotate_left
  · iexact H
  ipureintro
  intro i hi hlt
  by_cases hin : i ∈ (cAll.access (fRect b h)).set
  · obtain ⟨y, -, rfl⟩ := Finset.mem_map.mp hin
    rw [View.write_emb_of_mem _ _ (Finset.mem_univ y)]
    exact hCtx_at m c b h y
  · rw [View.write_of_not_mem _ _ _ hin]
    refine hf i hi ?_
    obtain ⟨h0, h1, h2⟩ := mem_cSet.mp hi
    rw [hset, fRect_mem] at hin
    by_contra hc
    exact hin ⟨h0, h1, by omega⟩
theorem wp_fill_s (c : Dev nD) (b : Fin 2) (n : ℕ) (h : Fin 4) (hh : h.val = n)
    {W : Vec F S1x1x1x256 .f32} (hW : W = hDen m c b h)
    {hl : sAll.view.LoadsAt (gRect b h).toLoadRect} {hx : (sAll.access (gRect b h)).Stores Finset.univ} {hm : (Finset.univ : Finset (gRect b h).shape.Idx) = Finset.univ ∨ ∀ a, (gRect b h).stride a = 1}
    {α : Type} {Q : α → sProp 𝕄} {k : PUnit → Prog (TpuEff nD τ sig (Elt F) Λ₀ .tc) α} :
    (sAcc m c b n : sProp 𝕄)
      ⊢ iprop((sAcc m c b (n + 1) -∗ run c (k ⟨⟩) Q)
          -∗ run c (.op (.load sAll (gRect b h).toLoadRect hl) fun _ => .op (.store sAll (gRect b h) W Finset.univ hx hm) k) Q) := by
  subst hW hh
  have hset : (sAll.access (gRect b h)).set = (gRect b h).set := View.set_slice_whole _ _
  have hsub : (gRect b h).set ⊆ sSet 0 b := fun i hi => by
    obtain ⟨h0, h1, h2⟩ := gRect_mem.mp hi
    exact mem_sSet.mpr ⟨h0, h1⟩
  have hacc : (sAll.access (gRect b h)).setOn Finset.univ ⊆ sSet 0 b := by rw [View.setOn_univ, hset]; exact hsub
  have hld : sAll.view.setOn (gRect b h).toLoadRect.set ⊆ sSet 0 b := by
    show sAll.view.setOn (gRect b h).set ⊆ _
    rw [show sAll.view.setOn (gRect b h).set = (gRect b h).set from Finset.map_refl]; exact hsub
  unfold sAcc
  iintro ⟨%f, %hf, H⟩ Hk
  iapply (wp_load 𝒱₀ (c : Thread nD τ) none Set.univ (m := sAll) (S := sSet 0 b)
    hld) $$ H
  iintro H
  iapply (wp_store 𝒱₀ (c : Thread nD τ) none Set.univ (m := sAll) (r := gRect b h) (S := sSet 0 b)
    hacc) $$ H
  iintro H
  iapply Hk
  iexists _
  isplitr
  rotate_left
  · iexact H
  ipureintro
  intro i hi hlt
  by_cases hin : i ∈ (sAll.access (gRect b h)).set
  · obtain ⟨y, -, rfl⟩ := Finset.mem_map.mp hin
    rw [View.write_emb_of_mem _ _ (Finset.mem_univ y)]
    exact hDen_at m c b h y
  · rw [View.write_of_not_mem _ _ _ hin]
    refine hf i hi ?_
    obtain ⟨h0, h1⟩ := mem_sSet.mp hi
    rw [hset, gRect_mem] at hin
    by_contra hc
    exact hin ⟨h0, h1, by omega⟩

/-! ## Shares -/

/-- What is held whole is a share to keep and one for each transfer. -/
theorem four_shares {ℓ : Loc nD τ sig} {I : Finset (Idx ℓ)} {f : Buf (Elt F) ℓ} :
    (ℓ ↦[I]{fullShare} f : sProp 𝕄) ⊣⊢ iprop((ℓ ↦[I]{shK} f) ∗ (ℓ ↦[I]{shr 0} f) ∗ (ℓ ↦[I]{shr 1} f) ∗ ℓ ↦[I]{shr 2} f) := by
  constructor
  · iintro H
    ihave H := (pointsTo_share (PosShare.mem_left_op_right fullShare)).1 $$ H
    icases H with ⟨Hl, Hr⟩
    ihave Hl := (pointsTo_share (PosShare.mem_left_op_right fullShare.left)).1 $$ Hl
    ihave Hr := (pointsTo_share (PosShare.mem_left_op_right fullShare.right)).1 $$ Hr
    icases Hl with ⟨H0, H1⟩
    icases Hr with ⟨H2, H3⟩
    isplitl [H0]; · iexact H0
    isplitl [H1]; · iexact H1
    isplitl [H2]; · iexact H2
    iexact H3
  · iintro ⟨H0, H1, H2, H3⟩
    iapply (pointsTo_share (PosShare.mem_left_op_right fullShare)).2
    isplitl [H0 H1]
    · iapply (pointsTo_share (PosShare.mem_left_op_right fullShare.left)).2
      isplitl [H0]; · iexact H0
      iexact H1
    iapply (pointsTo_share (PosShare.mem_left_op_right fullShare.right)).2
    isplitl [H2]; · iexact H2
    iexact H3

/-- The half filled: the share kept and the shares the transfers take. -/
theorem share_c (c : Dev nD) (b w : Fin 2) :
    (cAcc m c b w 2 : sProp 𝕄) ⊢ iprop(cPts c 0 b w shK (CTX m c) ∗ lent m c b w.castSucc 0 ∗ lent m c b w.castSucc 1 ∗ lent m c b w.castSucc 2) := by
  rw [lent_ctx, lent_ctx, lent_ctx, cPts_eq, cPts_eq, cPts_eq, cPts_eq]
  unfold cAcc
  iintro ⟨%f, %hf, H⟩
  iapply four_shares.1
  iapply (Entails.of_eq (pointsTo_congr fun i hi => hf i hi (by
    have := (mem_cSet.mp hi).2.2
    have := w.isLt
    omega)))
  iexact H
theorem share_s (c : Dev nD) (b : Fin 2) :
    (sAcc m c b 4 : sProp 𝕄) ⊢ iprop(sHas m c 0 b shK ∗ lent m c b 2 0 ∗ lent m c b 2 1 ∗ lent m c b 2 2) := by
  show _ ⊢ iprop(sHas m c 0 b shK ∗ sHas m c 0 b (shr 0) ∗ sHas m c 0 b (shr 1) ∗ sHas m c 0 b (shr 2))
  unfold sAcc sHas
  simp only [sPts_eq]
  iintro ⟨%f, %hf, H⟩
  have hd : DenOk m c 0 b f := fun i h0 h1 h2 => hf i (mem_sSet.mpr ⟨h0, h1⟩) h2
  ihave H := four_shares.1 $$ H
  icases H with ⟨H0, H1, H2, H3⟩
  isplitl [H0]; · iexists f; isplitr; · ipureintro; exact hd
                  iexact H0
  isplitl [H1]; · iexists f; isplitr; · ipureintro; exact hd
                  iexact H1
  isplitl [H2]; · iexists f; isplitr; · ipureintro; exact hd
                  iexact H2
  iexists f; isplitr; · ipureintro; exact hd
  iexact H3

/-- Two shares of a buffer are of the same contents. -/
theorem same_share {ℓ : Loc nD τ sig} {I : Finset (Idx ℓ)} {q q' : PosShare TreeShare} {f g : Buf (Elt F) ℓ} :
    iprop((ℓ ↦[I]{q} f) ∗ (ℓ ↦[I]{q'} g)) ⊢ (iprop((ℓ ↦[I]{q} f) ∗ (ℓ ↦[I]{q'} f)) : sProp 𝕄) := by
  iintro ⟨H1, H2⟩
  ihave %h := (pointsTo_agree (f := f) (g := g)) $$ [H1 H2]
  · isplitl [H1] <;> iassumption
  isplitl [H1]; · iexact H1
  iapply (Entails.of_eq (pointsTo_congr fun i hi => (h i (Finset.mem_inter.mpr ⟨hi, hi⟩)).1.symm))
  iexact H2

/-- Everything returned, the piece is the device's again. -/
theorem rejoin_c (c : Dev nD) (b w : Fin 2) :
    iprop(cPts c 0 b w shK (CTX m c) ∗ lent m c b w.castSucc 0 ∗ lent m c b w.castSucc 1 ∗ lent m c b w.castSucc 2)
      ⊢ (iprop(∃ f, cPts c 0 b w fullShare f) : sProp 𝕄) := by
  rw [lent_ctx, lent_ctx, lent_ctx]
  simp only [cPts_eq]
  iintro H
  iexists _
  iapply four_shares.2
  iexact H
theorem rejoin_s (c : Dev nD) (b : Fin 2) :
    iprop(sHas m c 0 b shK ∗ lent m c b 2 0 ∗ lent m c b 2 1 ∗ lent m c b 2 2) ⊢ (iprop(∃ f, sPts c 0 b fullShare f) : sProp 𝕄) := by
  show iprop(sHas m c 0 b shK ∗ sHas m c 0 b (shr 0) ∗ sHas m c 0 b (shr 1) ∗ sHas m c 0 b (shr 2)) ⊢ _
  unfold sHas
  simp only [sPts_eq]
  iintro ⟨⟨%f, -, H⟩, ⟨%f0, -, H0⟩, ⟨%f1, -, H1⟩, ⟨%f2, -, H2⟩⟩
  ihave H := (same_share (f := f) (g := f0)) $$ [H H0]
  · isplitl [H] <;> iassumption
  icases H with ⟨H, H0⟩
  ihave H := (same_share (f := f) (g := f1)) $$ [H H1]
  · isplitl [H] <;> iassumption
  icases H with ⟨H, H1⟩
  ihave H := (same_share (f := f) (g := f2)) $$ [H H2]
  · isplitl [H] <;> iassumption
  icases H with ⟨H, H2⟩
  iexists f
  iapply four_shares.2
  isplitl [H]; · iexact H
  isplitl [H0]; · iexact H0
  isplitl [H1]; · iexact H1
  iexact H2

/-! ## The slots read at the end -/

theorem wp_load_c (c : Dev nD) (s : Fin 4) (b : Fin 2) (q : PosShare TreeShare)
    {hl : cAll.view.LoadsAt (lcRect s b).toLoadRect}
    {α : Type} {Q : α → sProp 𝕄} {k : Vec F S1x1x256x256 .bf16 → Prog (TpuEff nD τ sig (Elt F) Λ₀ .tc) α} :
    (iprop(cPts c s b 0 q (CTX m c) ∗ cPts c s b 1 q (CTX m c)) : sProp 𝕄)
      ⊢ iprop(((cPts c s b 0 q (CTX m c) ∗ cPts c s b 1 q (CTX m c)) -∗ run c (k (ldC m c s b)) Q)
          -∗ run c (.op (.load cAll (lcRect s b).toLoadRect hl) k) Q) := by
  have hd : Disjoint (cSet s b 0) (cSet s b 1) := Finset.disjoint_left.mpr fun i h0 h1 =>
    absurd ((mem_cSet.mp h0).2.2.symm.trans (mem_cSet.mp h1).2.2) (by decide)
  have hld : cAll.view.setOn (lcRect s b).toLoadRect.set ⊆ cSet s b 0 ∪ cSet s b 1 := by
    show cAll.view.setOn (lcRect s b).set ⊆ _
    rw [show cAll.view.setOn (lcRect s b).set = (lcRect s b).set from Finset.map_refl]
    intro i hi
    have H := (Rect.mem_set_unit.mp hi)
    have h0 := H 0; have h1 := H 1; have h2 := H 2
    change s.val ≤ (i 0).val ∧ (i 0).val < s.val + 1 at h0
    change b.val ≤ (i 1).val ∧ (i 1).val < b.val + 1 at h1
    change 0 ≤ (i 2).val ∧ (i 2).val < 0 + 256 at h2
    rw [Finset.mem_union, mem_cSet, mem_cSet]
    rcases Nat.lt_or_ge (i 2).val 128 with h | h
    · left; refine ⟨by omega, by omega, ?_⟩; show _ = 0; omega
    · right; refine ⟨by omega, by omega, ?_⟩; show _ = 1; omega
  rw [cPts_eq, cPts_eq]
  iintro H Hk
  ihave H := (pointsTo_union hd).2 $$ H
  iapply (wp_load 𝒱₀ (c : Thread nD τ) none Set.univ (m := cAll) hld) $$ H
  iintro H
  iapply Hk
  iapply (pointsTo_union hd).1
  iexact H
theorem wp_load_s (c : Dev nD) (s : Fin 4) (b : Fin 2) (q : PosShare TreeShare)
    {hl : sAll.view.LoadsAt (ldRect s b).toLoadRect}
    {α : Type} {Q : α → sProp 𝕄} {k : Vec F S1x1x4x256 .f32 → Prog (TpuEff nD τ sig (Elt F) Λ₀ .tc) α} :
    (sHas m c s b q : sProp 𝕄)
      ⊢ iprop((sHas m c s b q -∗ run c (k (ldD m c s b)) Q)
          -∗ run c (.op (.load sAll (ldRect s b).toLoadRect hl) k) Q) := by
  have hmem : ∀ i : S4x2x8x256.Idx, i ∈ (ldRect s b).set → (i 0).val = s.val ∧ (i 1).val = b.val ∧ (i 2).val < 4 := fun i hi => by
    have H := (Rect.mem_set_unit.mp hi)
    have h0 := H 0; have h1 := H 1; have h2 := H 2
    change s.val ≤ (i 0).val ∧ (i 0).val < s.val + 1 at h0
    change b.val ≤ (i 1).val ∧ (i 1).val < b.val + 1 at h1
    change 0 ≤ (i 2).val ∧ (i 2).val < 0 + 4 at h2
    omega
  have hon : sAll.view.setOn (ldRect s b).set = (ldRect s b).set := Finset.map_refl
  have hld : sAll.view.setOn (ldRect s b).toLoadRect.set ⊆ sSet s b := by
    show sAll.view.setOn (ldRect s b).set ⊆ _
    rw [hon]
    intro i hi
    exact mem_sSet.mpr ⟨(hmem i hi).1, (hmem i hi).2.1⟩
  unfold sHas
  simp only [sPts_eq]
  iintro ⟨%f, %hf, H⟩ Hk
  have hrd : sAll.view.readAt (Elt F) (ldRect s b).toLoadRect f = ldD m c s b :=
    View.readAt_congr fun i hi => by
      have := hmem i (hon ▸ hi)
      exact hf i this.1 this.2.1 this.2.2
  iapply (wp_load 𝒱₀ (c : Thread nD τ) none Set.univ (m := sAll) hld) $$ H
  rw [hrd]
  iintro H
  iapply Hk
  iexists f
  isplitr; · ipureintro; exact hf
  iexact H

/-! ## The result block -/

/-- The result's staging block with `n` of the two batches in. -/
def oAcc (c : Dev nD) (n : ℕ) : sProp 𝕄 :=
  iprop(∃ f, ⌜∀ i : S2x256x512.Idx, (i 0).val < n → f i = outAt m c i⌝ ∗ (oM.view.loc (c : Thread nD τ) ↦[Finset.univ]{fullShare} f))

theorem wp_fill_o (c : Dev nD) (b : Fin 2) (n : ℕ) (hn : b.val = n)
    {W : Vec F S1x256x512 .bf16} (hW : W = outB m c b)
    {hl : oM.view.LoadsAt (xRect b).toLoadRect} {hx : (oM.access (xRect b)).Stores Finset.univ} {hm : (Finset.univ : Finset (xRect b).shape.Idx) = Finset.univ ∨ ∀ a, (xRect b).stride a = 1}
    {α : Type} {Q : α → sProp 𝕄} {k : PUnit → Prog (TpuEff nD τ sig (Elt F) Λ₀ .tc) α} :
    (oAcc m c n : sProp 𝕄)
      ⊢ iprop((oAcc m c (n + 1) -∗ run c (k ⟨⟩) Q)
          -∗ run c (.op (.load oM (xRect b).toLoadRect hl) fun _ => .op (.store oM (xRect b) W Finset.univ hx hm) k) Q) := by
  subst hW hn
  have hset : (oM.access (xRect b)).set = (xRect b).set := View.set_slice_whole _ _
  unfold oAcc
  iintro ⟨%f, %hf, H⟩ Hk
  iapply (wp_load 𝒱₀ (c : Thread nD τ) none Set.univ (m := oM) (S := Finset.univ) (Finset.subset_univ _)) $$ H
  iintro H
  iapply (wp_store 𝒱₀ (c : Thread nD τ) none Set.univ (m := oM) (r := xRect b) (S := Finset.univ) (Finset.subset_univ _)) $$ H
  iintro H
  iapply Hk
  iexists _
  isplitr
  rotate_left
  · iexact H
  ipureintro
  intro i hlt
  by_cases hin : i ∈ (oM.access (xRect b)).set
  · obtain ⟨y, -, rfl⟩ := Finset.mem_map.mp hin
    rw [View.write_emb_of_mem _ _ (Finset.mem_univ y)]
    have y0 : (y 0).val < 1 := (y 0).isLt
    have e0 : (((xRect b).emb y : S2x256x512.Idx) 0).val = b.val := by
      have hy : (xRect b).emb y ∈ (xRect b).set := by rw [← Rect.map_emb_univ]; exact Finset.mem_map_of_mem _ (Finset.mem_univ y)
      have H := Rect.mem_set_unit.mp hy 0
      change b.val ≤ (((xRect b).emb y : S2x256x512.Idx) 0).val ∧ (((xRect b).emb y : S2x256x512.Idx) 0).val < b.val + 1 at H
      omega
    have e1 : (((xRect b).emb y : S2x256x512.Idx) 1).val = 0 + (y 1).val := emb_unit _ _ _
    have e2 : (((xRect b).emb y : S2x256x512.Idx) 2).val = 0 + (y 2).val := emb_unit _ _ _
    show outB m c b y = outB m c (((xRect b).emb y : S2x256x512.Idx) 0) (ix3 (0 : Fin 1) (((xRect b).emb y : S2x256x512.Idx) 1) (((xRect b).emb y : S2x256x512.Idx) 2))
    rw [show ((xRect b).emb y : S2x256x512.Idx) 0 = b from Fin.ext e0]
    refine congrArg (outB m c b) ((eq_ix3 (n0 := 1) (n1 := 256) (n2 := 512) y).trans ?_)
    congr 1
    · exact Fin.ext (by show (y 0).val = 0; omega)
    · exact Fin.ext (by show (y 1).val = _; rw [e1]; omega)
    · exact Fin.ext (by show (y 2).val = _; rw [e2]; omega)
  · rw [View.write_of_not_mem _ _ _ hin]
    refine hf i ?_
    by_contra hc
    refine hin ?_
    rw [hset, Rect.mem_set_unit]
    have h1 : (i 1).val < 256 := (i 1).isLt
    have h2 : (i 2).val < 512 := (i 2).isLt
    intro a
    have a0 : b.val ≤ (i 0).val ∧ (i 0).val < b.val + 1 := by omega
    have a1 : 0 ≤ (i 1).val ∧ (i 1).val < 0 + 256 := by omega
    have a2 : 0 ≤ (i 2).val ∧ (i 2).val < 0 + 512 := by omega
    fin_cases a
    · exact a0
    · exact a1
    · exact a2

/-! ## The buffers in pieces -/

/-- Piece `k` of slot `s` for batch `b`, at any contents; all of a slot. -/
def spot (c : Dev nD) (s : Fin 4) (b : Fin 2) (k : Fin 3) : sProp 𝕄 :=
  match k with
  | 0 => iprop(∃ f, cPts c s b 0 fullShare f)
  | 1 => iprop(∃ f, cPts c s b 1 fullShare f)
  | 2 => iprop(∃ f, sPts c s b fullShare f)
def hold (c : Dev nD) (s : Fin 4) : sProp 𝕄 := bigSep Finset.univ fun x : Fin 2 × Fin 3 => spot c s x.1 x.2

theorem spot_land (c : Dev nD) (b : Fin 2) (k j : Fin 3) : (spot c j.succ b k : sProp 𝕄) = land c b k j := by fin_cases k <;> rfl
theorem hold_lands (c : Dev nD) (j : Fin 3) : (hold c j.succ : sProp 𝕄) = lands c j := by
  unfold hold lands
  exact congrArg (bigSep Finset.univ) (funext fun x => spot_land c x.1 x.2 j)

theorem c_apart (x y : Fin 4 × Fin 2 × Fin 2) (h : x ≠ y) : Disjoint (cSet x.1 x.2.1 x.2.2) (cSet y.1 y.2.1 y.2.2) :=
  Finset.disjoint_left.mpr fun i hx hy => h (by
    obtain ⟨a0, a1, a2⟩ := mem_cSet.mp hx
    obtain ⟨b0, b1, b2⟩ := mem_cSet.mp hy
    exact Prod.ext (Fin.ext (a0.symm.trans b0)) (Prod.ext (Fin.ext (a1.symm.trans b1)) (Fin.ext (a2.symm.trans b2))))
theorem s_apart (x y : Fin 4 × Fin 2) (h : x ≠ y) : Disjoint (sSet x.1 x.2) (sSet y.1 y.2) :=
  Finset.disjoint_left.mpr fun i hx hy => h (by
    obtain ⟨a0, a1⟩ := mem_sSet.mp hx
    obtain ⟨b0, b1⟩ := mem_sSet.mp hy
    exact Prod.ext (Fin.ext (a0.symm.trans b0)) (Fin.ext (a1.symm.trans b1)))
theorem c_cover : (Finset.univ.biUnion fun x : Fin 4 × Fin 2 × Fin 2 => cSet x.1 x.2.1 x.2.2) = Finset.univ :=
  Finset.eq_univ_of_forall fun i => Finset.mem_biUnion.mpr
    ⟨(i 0, i 1, ⟨(i 2).val / 128, by have h : (i 2).val < 256 := (i 2).isLt; omega⟩), Finset.mem_univ _, mem_cSet.mpr ⟨rfl, rfl, rfl⟩⟩
theorem s_cover : (Finset.univ.biUnion fun x : Fin 4 × Fin 2 => sSet x.1 x.2) = Finset.univ :=
  Finset.eq_univ_of_forall fun i => Finset.mem_biUnion.mpr ⟨(i 0, i 1), Finset.mem_univ _, mem_sSet.mpr ⟨rfl, rfl⟩⟩

theorem bigSep_fin2 (Φ : Fin 2 → sProp 𝕄) : bigSep Finset.univ Φ = iprop(Φ 0 ∗ Φ 1) := bigSep_univ_eq_bigSepL [0, 1] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem sep3 (A B C : sProp 𝕄) : iprop((A ∗ B) ∗ C) = iprop(A ∗ B ∗ C) := by
  have h1 : iprop((A ∗ B) ∗ C) ⊢ (iprop(A ∗ B ∗ C) : sProp 𝕄) := Laws.sep_assoc.1
  have h2 : (iprop(A ∗ B ∗ C) : sProp 𝕄) ⊢ iprop((A ∗ B) ∗ C) := Laws.sep_assoc.2
  exact equiv_iff.mp ⟨h1, h2⟩

/-- The pieces of the two buffers, slot by slot. -/
theorem spots (c : Dev nD) :
    iprop((bigSep Finset.univ fun x : Fin 4 × Fin 2 × Fin 2 => iprop(∃ f, cPts c x.1 x.2.1 x.2.2 fullShare f))
        ∗ bigSep Finset.univ fun x : Fin 4 × Fin 2 => iprop(∃ f, sPts c x.1 x.2 fullShare f))
      = (bigSep Finset.univ fun s : Fin 4 => hold c s : sProp 𝕄) := by
  rw [bigSep_univ_prod, bigSep_univ_prod, ← bigSep_sep']
  refine congrArg (bigSep Finset.univ) (funext fun s => ?_)
  unfold hold
  rw [bigSep_univ_prod, bigSep_univ_prod, ← bigSep_sep']
  refine congrArg (bigSep Finset.univ) (funext fun b => ?_)
  rw [bigSep_fin2, bigSep_fin3]
  exact sep3 (spot c s b 0) (spot c s b 1) (spot c s b 2)

/-- A buffer whole is its pieces; -/
theorem carve_c (c : Dev nD) :
    (iprop(∃ f, ℓc c ↦{fullShare} f) : sProp 𝕄) ⊢ bigSep Finset.univ fun x : Fin 4 × Fin 2 × Fin 2 => iprop(∃ f, cPts c x.1 x.2.1 x.2.2 fullShare f) := by
  iintro ⟨%f, H⟩
  have hm : (bigSep Finset.univ fun x : Fin 4 × Fin 2 × Fin 2 => (ℓc c ↦[cSet x.1 x.2.1 x.2.2]{fullShare} f : sProp 𝕄))
      ⊢ bigSep Finset.univ fun x : Fin 4 × Fin 2 × Fin 2 => (iprop(∃ f, cPts c x.1 x.2.1 x.2.2 fullShare f) : sProp 𝕄) :=
    bigSep_mono fun x _ => (by rw [← cPts_eq]; iintro H; iexists f; iexact H :
      (ℓc c ↦[cSet x.1 x.2.1 x.2.2]{fullShare} f : sProp 𝕄) ⊢ iprop(∃ f, cPts c x.1 x.2.1 x.2.2 fullShare f))
  iapply hm
  iapply (Entails.of_eq (Ring.pointsTo_blocks (ℓ := ℓc c) (fun x : Fin 4 × Fin 2 × Fin 2 => cSet x.1 x.2.1 x.2.2) c_apart c_cover f))
  iexact H
theorem carve_s (c : Dev nD) :
    (iprop(∃ f, ℓs c ↦{fullShare} f) : sProp 𝕄) ⊢ bigSep Finset.univ fun x : Fin 4 × Fin 2 => iprop(∃ f, sPts c x.1 x.2 fullShare f) := by
  iintro ⟨%f, H⟩
  have hm : (bigSep Finset.univ fun x : Fin 4 × Fin 2 => (ℓs c ↦[sSet x.1 x.2]{fullShare} f : sProp 𝕄))
      ⊢ bigSep Finset.univ fun x : Fin 4 × Fin 2 => (iprop(∃ f, sPts c x.1 x.2 fullShare f) : sProp 𝕄) :=
    bigSep_mono fun x _ => (by rw [← sPts_eq]; iintro H; iexists f; iexact H :
      (ℓs c ↦[sSet x.1 x.2]{fullShare} f : sProp 𝕄) ⊢ iprop(∃ f, sPts c x.1 x.2 fullShare f))
  iapply hm
  iapply (Entails.of_eq (Ring.pointsTo_blocks (ℓ := ℓs c) (fun x : Fin 4 × Fin 2 => sSet x.1 x.2) s_apart s_cover f))
  iexact H
/-- and its pieces make it whole. -/
theorem uncarve_c (f₀ : (c : Dev nD) → Buf (Elt F) (ℓc c)) (c : Dev nD) :
    (bigSep Finset.univ fun x : Fin 4 × Fin 2 × Fin 2 => (iprop(∃ f, cPts c x.1 x.2.1 x.2.2 fullShare f) : sProp 𝕄)) ⊢ iprop(∃ f, ℓc c ↦{fullShare} f) := by
  simp only [cPts_eq]
  exact Ring.pointsTo_blocks_join_exists (ℓ := ℓc c) (fun x : Fin 4 × Fin 2 × Fin 2 => cSet x.1 x.2.1 x.2.2) c_apart c_cover (f₀ c)
theorem uncarve_s (f₀ : (c : Dev nD) → Buf (Elt F) (ℓs c)) (c : Dev nD) :
    (bigSep Finset.univ fun x : Fin 4 × Fin 2 => (iprop(∃ f, sPts c x.1 x.2 fullShare f) : sProp 𝕄)) ⊢ iprop(∃ f, ℓs c ↦{fullShare} f) := by
  simp only [sPts_eq]
  exact Ring.pointsTo_blocks_join_exists (ℓ := ℓs c) (fun x : Fin 4 × Fin 2 => sSet x.1 x.2) s_apart s_cover (f₀ c)

/-- The two buffers whole are the four slots. -/
theorem carve (c : Dev nD) :
    iprop((∃ f, ℓc c ↦{fullShare} f) ∗ ∃ f, ℓs c ↦{fullShare} f) ⊢ (iprop(hold c 0 ∗ lands c 0 ∗ lands c 1 ∗ lands c 2) : sProp 𝕄) := by
  rw [← hold_lands, ← hold_lands, ← hold_lands]
  iintro ⟨H1, H2⟩
  iapply (Entails.of_eq ((spots (F := F) c).trans (bigSep_fin4 _)))
  isplitl [H1]
  · iapply (carve_c c); iexact H1
  iapply (carve_s c); iexact H2
include m in
theorem uncarve (c : Dev nD) :
    (iprop(hold c 0 ∗ lands c 0 ∗ lands c 1 ∗ lands c 2) : sProp 𝕄) ⊢ iprop((∃ f, ℓc c ↦{fullShare} f) ∗ ∃ f, ℓs c ↦{fullShare} f) := by
  rw [← hold_lands, ← hold_lands, ← hold_lands]
  have hs : (iprop(hold c 0 ∗ hold c (Fin.succ 0) ∗ hold c (Fin.succ 1) ∗ hold c (Fin.succ 2)) : sProp 𝕄) ⊢ _ :=
    Entails.of_eq ((spots (F := F) c).trans (bigSep_fin4 _)).symm
  iintro H
  ihave H := hs $$ H
  icases H with ⟨H1, H2⟩
  isplitl [H1]
  · iapply (uncarve_c (CTX m) c); iexact H1
  iapply (uncarve_s (DEN m) c); iexact H2

end Cert.KernelIdeal.Attn

end
-- ==== Proof.Flow.lean ====
/-
# The body's resources, and how its parts are put together

A part of the body is proved with its own postcondition and sequenced by `seq`. What the transfers need is kept in
lists in the order the kernel takes them: `plan` before and after the starts, `inbox` around the arrivals, `outbox`
around the departures.
-/
module

public import proofs.«01_k».proof.Proof.Local

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Ck → ℕ)

/-- A part proved by itself, followed by the rest. -/
theorem seq {c : Dev nD} {α β : Type} {p : Prog (TpuEff nD τ sig (Elt F) Λ₀ .tc) α} {k : α → Prog (TpuEff nD τ sig (Elt F) Λ₀ .tc) β}
    {P : sProp 𝕄} {Φ : α → sProp 𝕄} {Q : β → sProp 𝕄} (h : P ⊢ run c p Φ) :
    P ⊢ iprop((∀ v, Φ v -∗ run c (k v) Q) -∗ run c (p >>= k) Q) := by
  unfold run
  rw [wp_bind]
  exact h.trans (wp_wand frame (wpE (defs₀ (F := F)) 𝒱₀ (c : Thread nD τ) none) Set.univ)

/-- A part of the body at the kernel's own buffers and semaphores. -/
abbrev onBufs {β : Type 1} (f : (a0 : Memref sig .tc .vmem S2x256x512 .bf16) → a0.IsWhole → (a1 : Memref sig .tc .vmem S512x256 .bf16) → a1.IsWhole
    → (a2 : Memref sig .tc .vmem S2x256x4x64 .bf16) → a2.IsWhole → (a3 : Memref sig .tc .vmem S2x256x4x64 .bf16) → a3.IsWhole
    → (a4 : Memref sig .tc .vmem S256x512 .bf16) → a4.IsWhole → (a5 : Memref sig .tc .vmem S2x256x512 .bf16) → a5.IsWhole
    → (a6 : Memref sig .tc .vmem S4x2x256x256 .bf16) → a6.IsWhole → (a7 : Memref sig .tc .vmem S4x2x8x256 .f32) → a7.IsWhole
    → DmaSems sig S2x2x3 → DmaSems sig S2x2x3 → DmaSems sig S2x3 → DmaSems sig S2x3 → β) : β :=
  f xM (Memref.isWhole_whole _) wqM (Memref.isWhole_whole _) kM (Memref.isWhole_whole _) vM (Memref.isWhole_whole _) woM (Memref.isWhole_whole _)
    oM (Memref.isWhole_whole _) cAll (Memref.isWhole_whole _) sAll (Memref.isWhole_whole _) cc0_scratch2 cc0_scratch3 cc0_scratch4 cc0_scratch5

/-! ## The inputs -/

/-- The five staged inputs. -/
def ins (c : Dev nD) : sProp 𝕄 :=
  iprop((xM.view.loc (c : Thread nD τ) ↦[Finset.univ]{fullShare} bX m c) ∗ (wqM.view.loc (c : Thread nD τ) ↦[Finset.univ]{fullShare} bWq m c)
    ∗ (kM.view.loc (c : Thread nD τ) ↦[Finset.univ]{fullShare} bK m c) ∗ (vM.view.loc (c : Thread nD τ) ↦[Finset.univ]{fullShare} bV m c)
    ∗ (woM.view.loc (c : Thread nD τ) ↦[Finset.univ]{fullShare} bWo m c))

section Ins
variable (c : Dev nD)

theorem wp_ldX (b : Fin 2) {α : Type} {Q : α → sProp 𝕄} {hl : xM.view.LoadsAt (xRect b).toLoadRect} {k : Vec F S1x256x512 .bf16 → Prog (TpuEff nD τ sig (Elt F) Λ₀ .tc) α} :
    (ins m c : sProp 𝕄) ⊢ iprop((ins m c -∗ run c (k (ldX m c b)) Q) -∗ run c (.op (.load xM (xRect b).toLoadRect hl) k) Q) := by
  unfold ins
  iintro ⟨H, HR⟩ Hk
  iapply (wp_load 𝒱₀ (c : Thread nD τ) none Set.univ (m := xM) (S := Finset.univ) (Finset.subset_univ _)) $$ H
  iintro H
  iapply Hk
  isplitl [H]; · iexact H
  iexact HR
theorem wp_ldWq {α : Type} {Q : α → sProp 𝕄} {hl : wqM.view.LoadsAt (Rect.unit (s := S512x256) ![0, 0] S512x256.size inb_S512x256_S512x256_0_0).toLoadRect}
    {k : Vec F S512x256 .bf16 → Prog (TpuEff nD τ sig (Elt F) Λ₀ .tc) α} :
    (ins m c : sProp 𝕄) ⊢ iprop((ins m c -∗ run c (k (ldWq m c)) Q)
      -∗ run c (.op (.load wqM (Rect.unit (s := S512x256) ![0, 0] S512x256.size inb_S512x256_S512x256_0_0).toLoadRect hl) k) Q) := by
  unfold ins
  iintro ⟨Ha, H, HR⟩ Hk
  iapply (wp_load 𝒱₀ (c : Thread nD τ) none Set.univ (m := wqM) (S := Finset.univ) (Finset.subset_univ _)) $$ H
  iintro H
  iapply Hk
  isplitl [Ha]; · iexact Ha
  isplitl [H]; · iexact H
  iexact HR
theorem wp_ldK (b : Fin 2) (h : Fin 4) {α : Type} {Q : α → sProp 𝕄} {hl : kM.view.LoadsAt (kvRect b h).toLoadRect} {k : Vec F S1x256x1x64 .bf16 → Prog (TpuEff nD τ sig (Elt F) Λ₀ .tc) α} :
    (ins m c : sProp 𝕄) ⊢ iprop((ins m c -∗ run c (k (ldK m c b h)) Q) -∗ run c (.op (.load kM (kvRect b h).toLoadRect hl) k) Q) := by
  unfold ins
  iintro ⟨Ha, Hb, H, HR⟩ Hk
  iapply (wp_load 𝒱₀ (c : Thread nD τ) none Set.univ (m := kM) (S := Finset.univ) (Finset.subset_univ _)) $$ H
  iintro H
  iapply Hk
  isplitl [Ha]; · iexact Ha
  isplitl [Hb]; · iexact Hb
  isplitl [H]; · iexact H
  iexact HR
theorem wp_ldV (b : Fin 2) (h : Fin 4) {α : Type} {Q : α → sProp 𝕄} {hl : vM.view.LoadsAt (kvRect b h).toLoadRect} {k : Vec F S1x256x1x64 .bf16 → Prog (TpuEff nD τ sig (Elt F) Λ₀ .tc) α} :
    (ins m c : sProp 𝕄) ⊢ iprop((ins m c -∗ run c (k (ldV m c b h)) Q) -∗ run c (.op (.load vM (kvRect b h).toLoadRect hl) k) Q) := by
  unfold ins
  iintro ⟨Ha, Hb, Hc, H, HR⟩ Hk
  iapply (wp_load 𝒱₀ (c : Thread nD τ) none Set.univ (m := vM) (S := Finset.univ) (Finset.subset_univ _)) $$ H
  iintro H
  iapply Hk
  isplitl [Ha]; · iexact Ha
  isplitl [Hb]; · iexact Hb
  isplitl [Hc]; · iexact Hc
  isplitl [H]; · iexact H
  iexact HR
theorem wp_ldWo {α : Type} {Q : α → sProp 𝕄} {hl : woM.view.LoadsAt (Rect.unit (s := S256x512) ![0, 0] S256x512.size inb_S256x512_S256x512_0_0).toLoadRect}
    {k : Vec F S256x512 .bf16 → Prog (TpuEff nD τ sig (Elt F) Λ₀ .tc) α} :
    (ins m c : sProp 𝕄) ⊢ iprop((ins m c -∗ run c (k (ldWo m c)) Q)
      -∗ run c (.op (.load woM (Rect.unit (s := S256x512) ![0, 0] S256x512.size inb_S256x512_S256x512_0_0).toLoadRect hl) k) Q) := by
  unfold ins
  iintro ⟨Ha, Hb, Hc, Hd, H⟩ Hk
  iapply (wp_load 𝒱₀ (c : Thread nD τ) none Set.univ (m := woM) (S := Finset.univ) (Finset.subset_univ _)) $$ H
  iintro H
  iapply Hk
  isplitl [Ha]; · iexact Ha
  isplitl [Hb]; · iexact Hb
  isplitl [Hc]; · iexact Hc
  isplitl [Hd]; · iexact Hd
  iexact H

end Ins

/-! ## Lists of resources -/

def each (Φ : Tr → sProp 𝕄) : List Tr → sProp 𝕄
  | [] => iprop(emp)
  | x :: l => iprop(Φ x ∗ each Φ l)

theorem each_eq (Φ : Tr → sProp 𝕄) (l : List Tr) (h : l.Nodup) : each Φ l = bigSep l.toFinset Φ := by
  induction l with
  | nil => rfl
  | cons x l ih =>
    have hx : x ∉ l.toFinset := fun hm => (List.nodup_cons.mp h).1 (List.mem_toFinset.mp hm)
    rw [List.toFinset_cons, bigSep_insert hx, ← ih (List.nodup_cons.mp h).2]
    rfl

/-- What transfer `x` needs to start besides its piece: the right to, and the peer's slot. -/
def todo (c : Dev nD) (x : Tr) : sProp 𝕄 := iprop(ticket c x ∗ land (pl c x.2.2) x.1 x.2.1 x.2.2.rev)
/-- The transfers `l` still to start, those of `d` started. -/
def plan (c : Dev nD) (d l : List Tr) : sProp 𝕄 := iprop(owing c (owe c l) ∗ each (todo c) l ∗ each (away c) d)
/-- The semaphore of an arrival, of a departure, at rest. -/
def arrZ (c : Dev nD) (x : Tr) : sProp 𝕄 := semVal (kcell (c, some (true, x))) 0
def depZ (c : Dev nD) (x : Tr) : sProp 𝕄 := semVal (kcell (c, some (false, x))) 0
def arrived (c : Dev nD) (x : Tr) : sProp 𝕄 := iprop(got m c x.1 x.2.1 x.2.2 ∗ arrZ c x)
def departed (c : Dev nD) (x : Tr) : sProp 𝕄 := iprop(lent m c x.1 x.2.1 x.2.2 ∗ depZ c x)
/-- The arrivals `l` still awaited, those of `d` there; likewise the departures. -/
def inbox (c : Dev nD) (d l : List Tr) : sProp 𝕄 := iprop(owing c 0 ∗ each (due c) l ∗ each (arrived m c) d)
def outbox (c : Dev nD) (d l : List Tr) : sProp 𝕄 := iprop(owing c 0 ∗ each (away c) l ∗ each (departed m c) d)

section Rules
variable (c : Dev nD) (d l : List Tr)

theorem wp_go_ctx (n : Dev nD) (b w : Fin 2) (j : Fin 3) (hn : n = pl c j) {sS rS : DmaSem sig} (hS : sS = sndSem (b, w.castSucc, j)) (hR : rS = rcvSem (b, w.castSucc, j.rev))
    {hsc : (cM j.rev.succ b w : Memref sig (Dev.tc n : Thread nD τ).2.kind .vmem S128x256 .bf16).view.ref.isScScratch = false}
    {hsrc : (cM 0 b w).view.WordExact} {hdst : (cM j.rev.succ b w).view.WordExact}
    {hsem : DmaTarget.Typed .vmem (.dma rS) (.remote (Dev.tc n : Thread nD τ) (cM j.rev.succ b w : Memref sig .tc .vmem S128x256 .bf16) (.dma sS) hsc)}
    {α : Type} {Q : α → sProp 𝕄} {k : PUnit → Prog (TpuEff nD τ sig (Elt F) Λ₀ .tc) α} :
    iprop(records m K ∗ plan c d ((b, w.castSucc, j) :: l) ∗ lent m c b w.castSucc j)
      ⊢ iprop((plan c ((b, w.castSucc, j) :: d) l -∗ run c (k ⟨⟩) Q)
          -∗ run c (.op (.enqueueDma (cM 0 b w) (.remote (Dev.tc n : Thread nD τ) (cM j.rev.succ b w) (.dma sS) hsc) (.dma rS) hsrc hdst hsem) k) Q) := by
  have e1 : (each (todo (F := F) c) ((b, w.castSucc, j) :: l) : sProp 𝕄)
      = iprop((ticket c (b, w.castSucc, j) ∗ land (pl c j) b w.castSucc j.rev) ∗ each (todo c) l) := rfl
  have e2 : (each (away (F := F) c) ((b, w.castSucc, j) :: d) : sProp 𝕄) = iprop(away c (b, w.castSucc, j) ∗ each (away c) d) := rfl
  unfold plan
  rw [e1, e2]
  iintro ⟨#HR, ⟨HO, ⟨⟨Ht, Hl⟩, HL⟩, HA⟩, Hs⟩ Hk
  iapply (wp_put_ctx m K c n b w j hn l hS hR) $$ [HO Ht Hl Hs]
  · isplitr; · iexact HR
    isplitl [Ht]; · iexact Ht
    isplitl [Hl]; · iexact Hl
    isplitl [Hs]; · iexact Hs
    iexact HO
  iintro ⟨Ha, HO⟩
  iapply Hk
  isplitl [HO]; · iexact HO
  isplitl [HL]; · iexact HL
  isplitl [Ha]; · iexact Ha
  iexact HA
theorem wp_go_den (n : Dev nD) (b : Fin 2) (j : Fin 3) (hn : n = pl c j) {sS rS : DmaSem sig} (hS : sS = sndSem (b, 2, j)) (hR : rS = rcvSem (b, 2, j.rev))
    {hsc : (sM j.rev.succ b : Memref sig (Dev.tc n : Thread nD τ).2.kind .vmem S8x256 .f32).view.ref.isScScratch = false}
    {hsrc : (sM 0 b).view.WordExact} {hdst : (sM j.rev.succ b).view.WordExact}
    {hsem : DmaTarget.Typed .vmem (.dma rS) (.remote (Dev.tc n : Thread nD τ) (sM j.rev.succ b : Memref sig .tc .vmem S8x256 .f32) (.dma sS) hsc)}
    {α : Type} {Q : α → sProp 𝕄} {k : PUnit → Prog (TpuEff nD τ sig (Elt F) Λ₀ .tc) α} :
    iprop(records m K ∗ plan c d ((b, 2, j) :: l) ∗ lent m c b 2 j)
      ⊢ iprop((plan c ((b, 2, j) :: d) l -∗ run c (k ⟨⟩) Q)
          -∗ run c (.op (.enqueueDma (sM 0 b) (.remote (Dev.tc n : Thread nD τ) (sM j.rev.succ b) (.dma sS) hsc) (.dma rS) hsrc hdst hsem) k) Q) := by
  have e1 : (each (todo (F := F) c) ((b, 2, j) :: l) : sProp 𝕄)
      = iprop((ticket c (b, 2, j) ∗ land (pl c j) b 2 j.rev) ∗ each (todo c) l) := rfl
  have e2 : (each (away (F := F) c) ((b, 2, j) :: d) : sProp 𝕄) = iprop(away c (b, 2, j) ∗ each (away c) d) := rfl
  unfold plan
  rw [e1, e2]
  iintro ⟨#HR, ⟨HO, ⟨⟨Ht, Hl⟩, HL⟩, HA⟩, Hs⟩ Hk
  iapply (wp_put_den m K c n b j hn l hS hR) $$ [HO Ht Hl Hs]
  · isplitr; · iexact HR
    isplitl [Ht]; · iexact Ht
    isplitl [Hl]; · iexact Hl
    isplitl [Hs]; · iexact Hs
    iexact HO
  iintro ⟨Ha, HO⟩
  iapply Hk
  isplitl [HO]; · iexact HO
  isplitl [HL]; · iexact HL
  isplitl [Ha]; · iexact Ha
  iexact HA

theorem wp_in (x : Tr) {q : DmaSem sig} (hq : q = rcvSem x)
    {s s' : Shape} {e e' : EltTy} {src : Memref sig .tc .vmem s' e'} {dst : Memref sig .tc .vmem s e} {hsrc : src.view.WordExact} {hdst : dst.view.WordExact}
    (ha : dst.view.dmaCredit = amt x.2.1)
    {α : Type} {Q : α → sProp 𝕄} {k : PUnit → Prog (TpuEff nD τ sig (Elt F) Λ₀ .tc) α} :
    iprop(records m K ∗ inbox m c d (x :: l))
      ⊢ iprop((inbox m c (x :: d) l -∗ run c (k ⟨⟩) Q) -∗ run c (.op (.waitDma2 q src dst hsrc hdst) k) Q) := by
  have e1 : (each (due (F := F) c) (x :: l) : sProp 𝕄) = iprop(due c x ∗ each (due c) l) := rfl
  have e2 : (each (arrived m c) (x :: d) : sProp 𝕄) = iprop((got m c x.1 x.2.1 x.2.2 ∗ arrZ c x) ∗ each (arrived m c) d) := rfl
  unfold inbox
  rw [e1, e2]
  iintro ⟨#HR, HO, ⟨Hd, HL⟩, HA⟩ Hk
  iapply (wp_got m K c x hq ha) $$ [HO Hd]
  · isplitr; · iexact HR
    isplitl [Hd]; · iexact Hd
    iexact HO
  iintro ⟨Hg, Hz, HO⟩
  iapply Hk
  isplitl [HO]; · iexact HO
  isplitl [HL]; · iexact HL
  isplitl [Hg Hz]
  · isplitl [Hg]; · iexact Hg
    unfold arrZ; iexact Hz
  iexact HA
theorem wp_out (x : Tr) {q : DmaSem sig} (hq : q = sndSem x)
    {s s' : Shape} {e e' : EltTy} {src : Memref sig .tc .vmem s' e'} {dst : Memref sig .tc .vmem s e} {hsrc : src.view.WordExact} {hdst : dst.view.WordExact}
    (ha : dst.view.dmaCredit = amt x.2.1)
    {α : Type} {Q : α → sProp 𝕄} {k : PUnit → Prog (TpuEff nD τ sig (Elt F) Λ₀ .tc) α} :
    iprop(records m K ∗ outbox m c d (x :: l))
      ⊢ iprop((outbox m c (x :: d) l -∗ run c (k ⟨⟩) Q) -∗ run c (.op (.waitDma2 q src dst hsrc hdst) k) Q) := by
  have e1 : (each (away (F := F) c) (x :: l) : sProp 𝕄) = iprop(away c x ∗ each (away c) l) := rfl
  have e2 : (each (departed m c) (x :: d) : sProp 𝕄) = iprop((lent m c x.1 x.2.1 x.2.2 ∗ depZ c x) ∗ each (departed m c) d) := rfl
  unfold outbox
  rw [e1, e2]
  iintro ⟨#HR, HO, ⟨Hd, HL⟩, HA⟩ Hk
  iapply (wp_back m K c x hq ha) $$ [HO Hd]
  · isplitr; · iexact HR
    isplitl [Hd]; · iexact Hd
    iexact HO
  iintro ⟨Hg, Hz, HO⟩
  iapply Hk
  isplitl [HO]; · iexact HO
  isplitl [HL]; · iexact HL
  isplitl [Hg Hz]
  · isplitl [Hg]; · iexact Hg
    unfold depZ; iexact Hz
  iexact HA

end Rules

/-! ## The slots at the end -/

/-- One slot for one batch with its values in, at share `q`; the four slots. -/
def slot (c : Dev nD) (b : Fin 2) (s : Fin 4) (q : PosShare TreeShare) : sProp 𝕄 :=
  iprop((cPts c s b 0 q (CTX m c) ∗ cPts c s b 1 q (CTX m c)) ∗ sHas m c s b q)
def shelf (c : Dev nD) (b : Fin 2) : sProp 𝕄 :=
  iprop(slot m c b 0 shK ∗ slot m c b 1 fullShare ∗ slot m c b 2 fullShare ∗ slot m c b 3 fullShare)

/-- A slot is on the shelf, and goes back to it. -/
theorem shelf_take (c : Dev nD) (b : Fin 2) (s : Fin 4) :
    (shelf m c b : sProp 𝕄) ⊢ iprop(∃ q, slot m c b s q ∗ (slot m c b s q -∗ shelf m c b)) := by
  unfold shelf
  fin_cases s
  · iintro ⟨H0, H1, H2, H3⟩; iexists shK
    isplitl [H0]; · iexact H0
    iintro H0; isplitl [H0]; · iexact H0
    isplitl [H1]; · iexact H1
    isplitl [H2]; · iexact H2
    iexact H3
  · iintro ⟨H0, H1, H2, H3⟩; iexists fullShare
    isplitl [H1]; · iexact H1
    iintro H1; isplitl [H0]; · iexact H0
    isplitl [H1]; · iexact H1
    isplitl [H2]; · iexact H2
    iexact H3
  · iintro ⟨H0, H1, H2, H3⟩; iexists fullShare
    isplitl [H2]; · iexact H2
    iintro H2; isplitl [H0]; · iexact H0
    isplitl [H1]; · iexact H1
    isplitl [H2]; · iexact H2
    iexact H3
  · iintro ⟨H0, H1, H2, H3⟩; iexists fullShare
    isplitl [H3]; · iexact H3
    iintro H3; isplitl [H0]; · iexact H0
    isplitl [H1]; · iexact H1
    isplitl [H2]; · iexact H2
    iexact H3

theorem wp_readC (c : Dev nD) (b : Fin 2) (s : Fin 4) {hl : cAll.view.LoadsAt (lcRect s b).toLoadRect}
    {α : Type} {Q : α → sProp 𝕄} {k : Vec F S1x1x256x256 .bf16 → Prog (TpuEff nD τ sig (Elt F) Λ₀ .tc) α} :
    (shelf m c b : sProp 𝕄) ⊢ iprop((shelf m c b -∗ run c (k (ldC m c s b)) Q) -∗ run c (.op (.load cAll (lcRect s b).toLoadRect hl) k) Q) := by
  iintro H Hk
  ihave H := (shelf_take m c b s) $$ H
  icases H with ⟨%q, Hs, Hback⟩
  unfold slot
  icases Hs with ⟨Hc, Hs⟩
  iapply (wp_load_c m c s b q) $$ Hc
  iintro Hc
  iapply Hk
  iapply Hback
  isplitl [Hc]; · iexact Hc
  iexact Hs
theorem wp_readS (c : Dev nD) (b : Fin 2) (s : Fin 4) {hl : sAll.view.LoadsAt (ldRect s b).toLoadRect}
    {α : Type} {Q : α → sProp 𝕄} {k : Vec F S1x1x4x256 .f32 → Prog (TpuEff nD τ sig (Elt F) Λ₀ .tc) α} :
    (shelf m c b : sProp 𝕄) ⊢ iprop((shelf m c b -∗ run c (k (ldD m c s b)) Q) -∗ run c (.op (.load sAll (ldRect s b).toLoadRect hl) k) Q) := by
  iintro H Hk
  ihave H := (shelf_take m c b s) $$ H
  icases H with ⟨%q, Hs, Hback⟩
  unfold slot
  icases Hs with ⟨Hc, Hs⟩
  iapply (wp_load_s m c s b q) $$ Hs
  iintro Hs
  iapply Hk
  iapply Hback
  isplitl [Hc]; · iexact Hc
  iexact Hs

/-- The arrivals of a batch in the order the kernel awaits them, latest first. -/
def came (b : Fin 2) : List Tr := [(b, 2, 0), (b, 1, 0), (b, 2, 2), (b, 1, 2), (b, 2, 1), (b, 1, 1), (b, 0, 0), (b, 0, 2), (b, 0, 1)]

/-- What stays of the own slot. -/
def kept (c : Dev nD) (b : Fin 2) : sProp 𝕄 := iprop(cPts c 0 b 0 shK (CTX m c) ∗ cPts c 0 b 1 shK (CTX m c) ∗ sHas m c 0 b shK)

theorem shelve (c : Dev nD) (b : Fin 2) :
    iprop(kept m c b ∗ each (arrived m c) (came b)) ⊢ (iprop(shelf m c b ∗ each (arrZ c) (came b)) : sProp 𝕄) := by
  have e : (each (F := F) (arrZ c) (came b) : sProp 𝕄) = iprop(arrZ c (b, 2, 0) ∗ arrZ c (b, 1, 0) ∗ arrZ c (b, 2, 2) ∗ arrZ c (b, 1, 2) ∗ arrZ c (b, 2, 1) ∗ arrZ c (b, 1, 1) ∗ arrZ c (b, 0, 0) ∗ arrZ c (b, 0, 2) ∗ arrZ c (b, 0, 1) ∗ emp) := rfl
  rw [e]
  show iprop((cPts c 0 b 0 shK (CTX m c) ∗ cPts c 0 b 1 shK (CTX m c) ∗ sHas m c 0 b shK)
      ∗ (sHas m c 1 b fullShare ∗ arrZ c (b, 2, 0)) ∗ (cPts c 1 b 1 fullShare (CTX m c) ∗ arrZ c (b, 1, 0))
      ∗ (sHas m c 3 b fullShare ∗ arrZ c (b, 2, 2)) ∗ (cPts c 3 b 1 fullShare (CTX m c) ∗ arrZ c (b, 1, 2))
      ∗ (sHas m c 2 b fullShare ∗ arrZ c (b, 2, 1)) ∗ (cPts c 2 b 1 fullShare (CTX m c) ∗ arrZ c (b, 1, 1))
      ∗ (cPts c 1 b 0 fullShare (CTX m c) ∗ arrZ c (b, 0, 0)) ∗ (cPts c 3 b 0 fullShare (CTX m c) ∗ arrZ c (b, 0, 2))
      ∗ (cPts c 2 b 0 fullShare (CTX m c) ∗ arrZ c (b, 0, 1)) ∗ emp) ⊢ _
  unfold shelf slot
  iintro ⟨⟨K0, K1, K2⟩, ⟨A1, Z1⟩, ⟨A2, Z2⟩, ⟨A3, Z3⟩, ⟨A4, Z4⟩, ⟨A5, Z5⟩, ⟨A6, Z6⟩, ⟨A7, Z7⟩, ⟨A8, Z8⟩, ⟨A9, Z9⟩, -⟩
  isplitl [K0 K1 K2 A1 A2 A3 A4 A5 A6 A7 A8 A9]
  · isplitl [K0 K1 K2]
    · isplitr [K2]
      · isplitl [K0]
        · iexact K0
        iexact K1
      iexact K2
    isplitl [A1 A2 A7]
    · isplitr [A1]
      · isplitl [A7]
        · iexact A7
        iexact A2
      iexact A1
    isplitl [A5 A6 A9]
    · isplitr [A5]
      · isplitl [A9]
        · iexact A9
        iexact A6
      iexact A5
    isplitr [A3]
    · isplitl [A8]
      · iexact A8
      iexact A4
    iexact A3
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  iempintro

end Cert.KernelIdeal.Attn

end
-- ==== Proof.PartsA.lean ====
/-
# The parts of the body that start transfers

The entry barrier, the masks and weights, then batch by batch the partial contexts and denominators of each head, each half
of the heads sent off to the three peers as soon as it is stored.
-/
module

public import proofs.«01_k».proof.Proof.Flow

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Ck → ℕ)

/-- One head's keys and values, as matrices. -/
abbrev kC (c : Dev nD) (b : Fin 2) (h : Fin 4) : FVec F S256x64 .bf16 := shapeCast S256x64 (ldK m c b h) shapeCasts_S1x256x1x64_S256x64
abbrev vC (c : Dev nD) (b : Fin 2) (h : Fin 4) : FVec F S256x64 .bf16 := shapeCast S256x64 (ldV m c b h) shapeCasts_S1x256x1x64_S256x64

/-- What the entry barrier takes: the signals' rights with the slots they hand over, the barrier's own round. -/
def entry (c : Dev nD) : sProp 𝕄 :=
  iprop((dutyTok ER (kcell (pl c 0, none)) 0 0 ∗ lands c 0) ∗ (dutyTok ER (kcell (pl c 1, none)) 0 1 ∗ lands c 1) ∗ (dutyTok ER (kcell (pl c 2, none)) 0 2 ∗ lands c 2)
    ∗ levAts L lv ∗ cred (tallyAt (kcell (c, none)) () 3) ∗ atPos ER (kcell (c, none)) 0 ∅ 0 ∗ owing c (O₀ c))
/-- What it leaves: the peers' slots. -/
def entered (c : Dev nD) : sProp 𝕄 :=
  iprop(lands (pl c 2) 0 ∗ lands (pl c 1) 1 ∗ lands (pl c 0) 2 ∗ semVal (kcell (c, none)) 0 ∗ owing c (owe c order))

theorem part1 (c : Dev nD) :
    iprop(records m K ∗ ins m c ∗ entry c)
      ⊢ run c (onBufs (k0_part1 (F := F))) fun v => iprop(⌜∃ v2 : BitVec 32, v = ⟨c, v2, wqS m c, k0_pay2 (ldWo m c),
          iota .tc S256x256 32 [0] iota_S256x256_d0_w32, 64#32, k0_pay3, k0_pay4, 0#32⟩⌝ ∗ ins m c ∗ entered c) := by
  unfold entry entered O₀
  rw [k0_part1_eq_skeleton]
  unfold onBufs k0_part1_skel
  simp only [semSignalWord, semWaitWord, Prog.lift, Prog.bind_op, Prog.bind_ret, Prog.pure_eq_ret]
  unfold run
  rw [wp_deviceId]
  iintro ⟨#HR, HI, ⟨T0, L0⟩, ⟨T1, L1⟩, ⟨T2, L2⟩, Hlev, Hc, Hat, HO⟩
  iapply (wp_sig m K c _ 0 (Fin.ext (k0_dev1_eq c)) (owe c order + oweBar c 2 + oweBar c 1)) $$ [T0 L0 HO]
  · isplitr; · iexact HR
    isplitl [T0]; · iexact T0
    isplitl [L0]; · iexact L0
    iexact HO
  iintro HO
  iapply (wp_sig m K c _ 1 (Fin.ext (k0_dev2_eq c)) (owe c order + oweBar c 2)) $$ [T1 L1 HO]
  · isplitr; · iexact HR
    isplitl [T1]; · iexact T1
    isplitl [L1]; · iexact L1
    iexact HO
  iintro HO
  iapply (wp_sig m K c _ 2 (Fin.ext (k0_dev3_eq c)) (owe c order)) $$ [T2 L2 HO]
  · isplitr; · iexact HR
    isplitl [T2]; · iexact T2
    isplitl [L2]; · iexact L2
    iexact HO
  iintro HO
  iapply (wp_gate m K c order) $$ [Hlev Hc Hat HO]
  · isplitr; · iexact HR
    isplitl [Hlev]; · iexact Hlev
    isplitl [Hc]; · iexact Hc
    isplitl [Hat]; · iexact Hat
    iexact HO
  iintro HE
  iapply (wp_ldWq m c) $$ HI
  iintro HI
  iapply (wp_ldWo m c) $$ HI
  iintro HI
  unfold run
  rw [wp_ret]
  imodintro
  isplitr
  · ipureintro; exact ⟨_, rfl⟩
  isplitl [HI]; · iexact HI
  iexact HE

theorem part2 (c : Dev nD) :
    (iprop(emp) : sProp 𝕄) ⊢ run c (onBufs (k0_part2 (F := F)) (iota .tc S256x256 32 [0] iota_S256x256_d0_w32) 64#32 k0_pay3 k0_pay4 0#32)
      fun v => iprop(⌜v = msk⌝) := by
  rw [k0_part2_eq_skeleton]
  unfold onBufs k0_part2_skel run
  simp only [Prog.pure_eq_ret]
  rw [wp_ret]
  iintro -
  imodintro
  ipureintro
  rfl

theorem part3 (c : Dev nD) :
    iprop(ins m c ∗ cAcc m c 0 0 0 ∗ sAcc m c 0 0)
      ⊢ run c (onBufs (k0_part3 (F := F)) (wqS m c) msk) fun v =>
          iprop(⌜v = ⟨qAll m c 0, qHd m c 0 1, kC m c 0 1, vC m c 0 1⟩⌝ ∗ ins m c ∗ cAcc m c 0 0 1 ∗ sAcc m c 0 1) := by
  rw [k0_part3_eq_skeleton]
  unfold onBufs k0_part3_skel
  simp only [Prog.lift, Prog.bind_op, Prog.bind_ret, Prog.pure_eq_ret]
  iintro ⟨HI, HC, HS⟩
  iapply (wp_ldX m c 0) $$ HI
  iintro HI
  iapply (wp_ldK m c 0 0) $$ HI
  iintro HI
  iapply (wp_ldV m c 0 0) $$ HI
  iintro HI
  iapply (wp_fill_c m c 0 0 0 0 rfl (by decide) rfl) $$ HC
  iintro HC
  iapply (wp_fill_s m c 0 0 0 rfl rfl) $$ HS
  iintro HS
  iapply (wp_ldK m c 0 1) $$ HI
  iintro HI
  iapply (wp_ldV m c 0 1) $$ HI
  iintro HI
  unfold run
  rw [wp_ret]
  imodintro
  isplitr
  · ipureintro; rfl
  isplitl [HI]; · iexact HI
  isplitl [HC]; · iexact HC
  iexact HS

theorem part4 (c : Dev nD) (v2 : BitVec 32) (l : List Tr) :
    iprop(records m K ∗ (cAcc m c 0 0 1 ∗ sAcc m c 0 1) ∗ plan c [] ((0, 0, 1) :: l))
      ⊢ run c (onBufs (k0_part4 (F := F)) c v2 msk (qHd m c 0 1) (kC m c 0 1) (vC m c 0 1)) fun _ =>
          iprop(cPts c 0 0 0 shK (CTX m c) ∗ sAcc m c 0 2 ∗ (lent m c 0 0 0 ∗ lent m c 0 0 2) ∗ plan c [(0, 0, 1)] l) := by
  rw [k0_part4_eq_skeleton]
  unfold onBufs k0_part4_skel
  simp only [Prog.lift, Prog.bind_op, Prog.bind_ret, Prog.pure_eq_ret]
  iintro ⟨#HR, ⟨HC, HS⟩, HP⟩
  iapply (wp_fill_c m c 0 0 1 1 rfl (by decide) rfl) $$ HC
  iintro HC
  iapply (wp_fill_s m c 0 1 1 rfl rfl) $$ HS
  iintro HS
  ihave HC := (share_c m c 0 0) $$ HC
  icases HC with ⟨HC, H0, H1, H2⟩
  iapply (wp_go_ctx m K c [] l _ 0 0 1 (Fin.ext (k0_dev4_eq c)) (qC_snd 0 0 1) (qC_rcv 0 0 1)) $$ [HP H1]
  · isplitr; · iexact HR
    isplitl [HP]; · iexact HP
    iexact H1
  iintro HP
  unfold run
  rw [wp_ret]
  imodintro
  isplitl [HC]; · iexact HC
  isplitl [HS]; · iexact HS
  isplitl [H0 H2]
  · isplitl [H0]; · iexact H0
    iexact H2
  iexact HP

theorem part5 (c : Dev nD) (v2 v130 : BitVec 32) (d l : List Tr) :
    iprop(records m K ∗ (lent m c 0 0 0 ∗ lent m c 0 0 2) ∗ plan c d ((0, 0, 0) :: (0, 0, 2) :: l))
      ⊢ run c (onBufs (k0_part5 (F := F)) c v2 v130) fun _ => iprop(plan c ((0, 0, 2) :: (0, 0, 0) :: d) l) := by
  rw [k0_part5_eq_skeleton]
  unfold onBufs k0_part5_skel
  simp only [Prog.lift, Prog.bind_op, Prog.bind_ret, Prog.pure_eq_ret]
  iintro ⟨#HR, ⟨H0, H1⟩, HP⟩
  iapply (wp_go_ctx m K c _ _ _ 0 0 0 (Fin.ext (k0_dev5_eq c)) (qC_snd 0 0 0) (qC_rcv 0 0 2)) $$ [HP H0]
  · isplitr; · iexact HR
    isplitl [HP]; · iexact HP
    iexact H0
  iintro HP
  iapply (wp_go_ctx m K c _ _ _ 0 0 2 (Fin.ext (k0_dev6_eq c)) (qC_snd 0 0 2) (qC_rcv 0 0 0)) $$ [HP H1]
  · isplitr; · iexact HR
    isplitl [HP]; · iexact HP
    iexact H1
  iintro HP
  unfold run
  rw [wp_ret]
  imodintro
  iexact HP

theorem part6 (c : Dev nD) :
    iprop(ins m c ∗ cAcc m c 0 1 0 ∗ sAcc m c 0 2)
      ⊢ run c (onBufs (k0_part6 (F := F)) msk (qAll m c 0)) fun v =>
          iprop(⌜v = ⟨vC m c 0 3, wts m c 0 3⟩⌝ ∗ ins m c ∗ cAcc m c 0 1 1 ∗ sAcc m c 0 3) := by
  rw [k0_part6_eq_skeleton]
  unfold onBufs k0_part6_skel
  simp only [Prog.lift, Prog.bind_op, Prog.bind_ret, Prog.pure_eq_ret]
  iintro ⟨HI, HC, HS⟩
  iapply (wp_ldK m c 0 2) $$ HI
  iintro HI
  iapply (wp_ldV m c 0 2) $$ HI
  iintro HI
  iapply (wp_fill_c m c 0 1 0 2 rfl (by decide) rfl) $$ HC
  iintro HC
  iapply (wp_fill_s m c 0 2 2 rfl rfl) $$ HS
  iintro HS
  iapply (wp_ldK m c 0 3) $$ HI
  iintro HI
  iapply (wp_ldV m c 0 3) $$ HI
  iintro HI
  unfold run
  rw [wp_ret]
  imodintro
  isplitr
  · ipureintro; rfl
  isplitl [HI]; · iexact HI
  isplitl [HC]; · iexact HC
  iexact HS

theorem part7 (c : Dev nD) (v2 : BitVec 32) (d l : List Tr) :
    iprop(records m K ∗ (cAcc m c 0 1 1 ∗ sAcc m c 0 3) ∗ plan c d ((0, 1, 1) :: l))
      ⊢ run c (onBufs (k0_part7 (F := F)) c v2 (vC m c 0 3) (wts m c 0 3)) fun _ =>
          iprop((cPts c 0 0 1 shK (CTX m c) ∗ sHas m c 0 0 shK) ∗ (lent m c 0 1 0 ∗ lent m c 0 1 2)
            ∗ (lent m c 0 2 0 ∗ lent m c 0 2 1 ∗ lent m c 0 2 2) ∗ plan c ((0, 1, 1) :: d) l) := by
  rw [k0_part7_eq_skeleton]
  unfold onBufs k0_part7_skel
  simp only [Prog.lift, Prog.bind_op, Prog.bind_ret, Prog.pure_eq_ret]
  iintro ⟨#HR, ⟨HC, HS⟩, HP⟩
  iapply (wp_fill_c m c 0 1 1 3 rfl (by decide) rfl) $$ HC
  iintro HC
  iapply (wp_fill_s m c 0 3 3 rfl rfl) $$ HS
  iintro HS
  ihave HC := (share_c m c 0 1) $$ HC
  icases HC with ⟨HC, H0, H1, H2⟩
  ihave HS := (share_s m c 0) $$ HS
  icases HS with ⟨HS, HL⟩
  iapply (wp_go_ctx m K c _ _ _ 0 1 1 (Fin.ext (k0_dev7_eq c)) (qC_snd 0 1 1) (qC_rcv 0 1 1)) $$ [HP H1]
  · isplitr; · iexact HR
    isplitl [HP]; · iexact HP
    iexact H1
  iintro HP
  unfold run
  rw [wp_ret]
  imodintro
  isplitl [HC HS]
  · isplitl [HC]; · iexact HC
    iexact HS
  isplitl [H0 H2]
  · isplitl [H0]; · iexact H0
    iexact H2
  isplitl [HL]; · iexact HL
  iexact HP

theorem part8 (c : Dev nD) (v2 v195 : BitVec 32) (d l : List Tr) :
    iprop(records m K ∗ (lent m c 0 2 1 ∗ lent m c 0 1 0) ∗ plan c d ((0, 2, 1) :: (0, 1, 0) :: l))
      ⊢ run c (onBufs (k0_part8 (F := F)) c v2 v195) fun _ => iprop(plan c ((0, 1, 0) :: (0, 2, 1) :: d) l) := by
  rw [k0_part8_eq_skeleton]
  unfold onBufs k0_part8_skel
  simp only [Prog.lift, Prog.bind_op, Prog.bind_ret, Prog.pure_eq_ret]
  iintro ⟨#HR, ⟨H0, H1⟩, HP⟩
  iapply (wp_go_den m K c _ _ _ 0 1 (Fin.ext (k0_dev8_eq c)) (qS_snd 0 1) (qS_rcv 0 1)) $$ [HP H0]
  · isplitr; · iexact HR
    isplitl [HP]; · iexact HP
    iexact H0
  iintro HP
  iapply (wp_go_ctx m K c _ _ _ 0 1 0 (Fin.ext (k0_dev9_eq c)) (qC_snd 0 1 0) (qC_rcv 0 1 2)) $$ [HP H1]
  · isplitr; · iexact HR
    isplitl [HP]; · iexact HP
    iexact H1
  iintro HP
  unfold run
  rw [wp_ret]
  imodintro
  iexact HP

theorem part9 (c : Dev nD) (v2 v228 v0 : BitVec 32) (d l : List Tr) :
    iprop(records m K ∗ (lent m c 0 2 0 ∗ lent m c 0 1 2) ∗ plan c d ((0, 2, 0) :: (0, 1, 2) :: l))
      ⊢ run c (onBufs (k0_part9 (F := F)) c v2 v228 v0) fun _ => iprop(plan c ((0, 1, 2) :: (0, 2, 0) :: d) l) := by
  rw [k0_part9_eq_skeleton]
  unfold onBufs k0_part9_skel
  simp only [Prog.lift, Prog.bind_op, Prog.bind_ret, Prog.pure_eq_ret]
  iintro ⟨#HR, ⟨H0, H1⟩, HP⟩
  iapply (wp_go_den m K c _ _ _ 0 0 (Fin.ext (k0_dev10_eq c)) (qS_snd 0 0) (qS_rcv 0 2)) $$ [HP H0]
  · isplitr; · iexact HR
    isplitl [HP]; · iexact HP
    iexact H0
  iintro HP
  iapply (wp_go_ctx m K c _ _ _ 0 1 2 (Fin.ext (k0_dev11_eq c)) (qC_snd 0 1 2) (qC_rcv 0 1 0)) $$ [HP H1]
  · isplitr; · iexact HR
    isplitl [HP]; · iexact HP
    iexact H1
  iintro HP
  unfold run
  rw [wp_ret]
  imodintro
  iexact HP

theorem part10 (c : Dev nD) (d l : List Tr) :
    iprop(records m K ∗ ins m c ∗ (cAcc m c 1 0 0 ∗ sAcc m c 1 0) ∗ lent m c 0 2 2 ∗ plan c d ((0, 2, 2) :: l))
      ⊢ run c (onBufs (k0_part10 (F := F)) c (wqS m c) msk) fun v =>
          iprop(⌜v = ⟨qAll m c 1, qHd m c 1 1⟩⌝ ∗ ins m c ∗ (cAcc m c 1 0 1 ∗ sAcc m c 1 1) ∗ plan c ((0, 2, 2) :: d) l) := by
  rw [k0_part10_eq_skeleton]
  unfold onBufs k0_part10_skel
  simp only [Prog.lift, Prog.bind_op, Prog.bind_ret, Prog.pure_eq_ret]
  iintro ⟨#HR, HI, ⟨HC, HS⟩, H0, HP⟩
  iapply (wp_go_den m K c _ _ _ 0 2 (Fin.ext (k0_dev12_eq c)) (qS_snd 0 2) (qS_rcv 0 0)) $$ [HP H0]
  · isplitr; · iexact HR
    isplitl [HP]; · iexact HP
    iexact H0
  iintro HP
  iapply (wp_ldX m c 1) $$ HI
  iintro HI
  iapply (wp_ldK m c 1 0) $$ HI
  iintro HI
  iapply (wp_ldV m c 1 0) $$ HI
  iintro HI
  iapply (wp_fill_c m c 1 0 0 0 rfl (by decide) rfl) $$ HC
  iintro HC
  iapply (wp_fill_s m c 1 0 0 rfl rfl) $$ HS
  iintro HS
  unfold run
  rw [wp_ret]
  imodintro
  isplitr
  · ipureintro; rfl
  isplitl [HI]; · iexact HI
  isplitl [HC HS]
  · isplitl [HC]; · iexact HC
    iexact HS
  iexact HP

theorem part11 (c : Dev nD) (v2 : BitVec 32) :
    iprop(ins m c ∗ cAcc m c 1 0 1 ∗ sAcc m c 1 1)
      ⊢ run c (onBufs (k0_part11 (F := F)) v2 msk (qHd m c 1 1)) fun _ =>
          iprop(ins m c ∗ cPts c 0 1 0 shK (CTX m c) ∗ sAcc m c 1 2 ∗ (lent m c 1 0 0 ∗ lent m c 1 0 1 ∗ lent m c 1 0 2)) := by
  rw [k0_part11_eq_skeleton]
  unfold onBufs k0_part11_skel
  simp only [Prog.lift, Prog.bind_op, Prog.bind_ret, Prog.pure_eq_ret]
  iintro ⟨HI, HC, HS⟩
  iapply (wp_ldK m c 1 1) $$ HI
  iintro HI
  iapply (wp_ldV m c 1 1) $$ HI
  iintro HI
  iapply (wp_fill_c m c 1 0 1 1 rfl (by decide) rfl) $$ HC
  iintro HC
  iapply (wp_fill_s m c 1 1 1 rfl rfl) $$ HS
  iintro HS
  ihave HC := (share_c m c 1 0) $$ HC
  icases HC with ⟨HC, HL⟩
  unfold run
  rw [wp_ret]
  imodintro
  isplitl [HI]; · iexact HI
  isplitl [HC]; · iexact HC
  isplitl [HS]; · iexact HS
  iexact HL

theorem part12 (c : Dev nD) (v2 : BitVec 32) (d l : List Tr) :
    iprop(records m K ∗ (lent m c 1 0 1 ∗ lent m c 1 0 0) ∗ plan c d ((1, 0, 1) :: (1, 0, 0) :: l))
      ⊢ run c (onBufs (k0_part12 (F := F)) c v2) fun _ => iprop(plan c ((1, 0, 0) :: (1, 0, 1) :: d) l) := by
  rw [k0_part12_eq_skeleton]
  unfold onBufs k0_part12_skel
  simp only [Prog.lift, Prog.bind_op, Prog.bind_ret, Prog.pure_eq_ret]
  iintro ⟨#HR, ⟨H0, H1⟩, HP⟩
  iapply (wp_go_ctx m K c _ _ _ 1 0 1 (Fin.ext (k0_dev13_eq c)) (qC_snd 1 0 1) (qC_rcv 1 0 1)) $$ [HP H0]
  · isplitr; · iexact HR
    isplitl [HP]; · iexact HP
    iexact H0
  iintro HP
  iapply (wp_go_ctx m K c _ _ _ 1 0 0 (Fin.ext (k0_dev14_eq c)) (qC_snd 1 0 0) (qC_rcv 1 0 2)) $$ [HP H1]
  · isplitr; · iexact HR
    isplitl [HP]; · iexact HP
    iexact H1
  iintro HP
  unfold run
  rw [wp_ret]
  imodintro
  iexact HP

theorem part13 (c : Dev nD) (d l : List Tr) :
    iprop(records m K ∗ ins m c ∗ (cAcc m c 1 1 0 ∗ sAcc m c 1 2) ∗ lent m c 1 0 2 ∗ plan c d ((1, 0, 2) :: l))
      ⊢ run c (onBufs (k0_part13 (F := F)) c msk (qAll m c 1)) fun v =>
          iprop(⌜v = ⟨qHd m c 1 3, ldK m c 1 3⟩⌝ ∗ ins m c ∗ (cAcc m c 1 1 1 ∗ sAcc m c 1 3) ∗ plan c ((1, 0, 2) :: d) l) := by
  rw [k0_part13_eq_skeleton]
  unfold onBufs k0_part13_skel
  simp only [Prog.lift, Prog.bind_op, Prog.bind_ret, Prog.pure_eq_ret]
  iintro ⟨#HR, HI, ⟨HC, HS⟩, H0, HP⟩
  iapply (wp_go_ctx m K c _ _ _ 1 0 2 (Fin.ext (k0_dev15_eq c)) (qC_snd 1 0 2) (qC_rcv 1 0 0)) $$ [HP H0]
  · isplitr; · iexact HR
    isplitl [HP]; · iexact HP
    iexact H0
  iintro HP
  iapply (wp_ldK m c 1 2) $$ HI
  iintro HI
  iapply (wp_ldV m c 1 2) $$ HI
  iintro HI
  iapply (wp_fill_c m c 1 1 0 2 rfl (by decide) rfl) $$ HC
  iintro HC
  iapply (wp_fill_s m c 1 2 2 rfl rfl) $$ HS
  iintro HS
  iapply (wp_ldK m c 1 3) $$ HI
  iintro HI
  unfold run
  rw [wp_ret]
  imodintro
  isplitr
  · ipureintro; rfl
  isplitl [HI]; · iexact HI
  isplitl [HC HS]
  · isplitl [HC]; · iexact HC
    iexact HS
  iexact HP

theorem part14 (c : Dev nD) (v2 : BitVec 32) :
    iprop(ins m c ∗ (cAcc m c 1 1 1 ∗ sAcc m c 1 3))
      ⊢ run c (onBufs (k0_part14 (F := F)) v2 msk (qHd m c 1 3) (ldK m c 1 3)) fun _ =>
          iprop(ins m c ∗ (cPts c 0 1 1 shK (CTX m c) ∗ sHas m c 0 1 shK) ∗ (lent m c 1 1 0 ∗ lent m c 1 1 1 ∗ lent m c 1 1 2)
            ∗ (lent m c 1 2 0 ∗ lent m c 1 2 1 ∗ lent m c 1 2 2)) := by
  rw [k0_part14_eq_skeleton]
  unfold onBufs k0_part14_skel
  simp only [Prog.lift, Prog.bind_op, Prog.bind_ret, Prog.pure_eq_ret]
  iintro ⟨HI, HC, HS⟩
  iapply (wp_ldV m c 1 3) $$ HI
  iintro HI
  iapply (wp_fill_c m c 1 1 1 3 rfl (by decide) rfl) $$ HC
  iintro HC
  iapply (wp_fill_s m c 1 3 3 rfl rfl) $$ HS
  iintro HS
  ihave HC := (share_c m c 1 1) $$ HC
  icases HC with ⟨HC, H0, H1, H2⟩
  ihave HS := (share_s m c 1) $$ HS
  icases HS with ⟨HS, HL⟩
  unfold run
  rw [wp_ret]
  imodintro
  isplitl [HI]; · iexact HI
  isplitl [HC HS]
  · isplitl [HC]; · iexact HC
    iexact HS
  isplitl [H0 H1 H2]
  · isplitl [H0]; · iexact H0
    isplitl [H1]; · iexact H1
    iexact H2
  iexact HL

theorem part15 (c : Dev nD) (v2 v380 : BitVec 32) (d l : List Tr) :
    iprop(records m K ∗ (lent m c 1 1 1 ∗ lent m c 1 2 1) ∗ plan c d ((1, 1, 1) :: (1, 2, 1) :: l))
      ⊢ run c (onBufs (k0_part15 (F := F)) c v2 v380) fun _ => iprop(plan c ((1, 2, 1) :: (1, 1, 1) :: d) l) := by
  rw [k0_part15_eq_skeleton]
  unfold onBufs k0_part15_skel
  simp only [Prog.lift, Prog.bind_op, Prog.bind_ret, Prog.pure_eq_ret]
  iintro ⟨#HR, ⟨H0, H1⟩, HP⟩
  iapply (wp_go_ctx m K c _ _ _ 1 1 1 (Fin.ext (k0_dev16_eq c)) (qC_snd 1 1 1) (qC_rcv 1 1 1)) $$ [HP H0]
  · isplitr; · iexact HR
    isplitl [HP]; · iexact HP
    iexact H0
  iintro HP
  iapply (wp_go_den m K c _ _ _ 1 1 (Fin.ext (k0_dev17_eq c)) (qS_snd 1 1) (qS_rcv 1 1)) $$ [HP H1]
  · isplitr; · iexact HR
    isplitl [HP]; · iexact HP
    iexact H1
  iintro HP
  unfold run
  rw [wp_ret]
  imodintro
  iexact HP

theorem part16 (c : Dev nD) (v2 v402 : BitVec 32) (d l : List Tr) :
    iprop(records m K ∗ (lent m c 1 1 0 ∗ lent m c 1 2 0 ∗ lent m c 1 1 2) ∗ plan c d ((1, 1, 0) :: (1, 2, 0) :: (1, 1, 2) :: l))
      ⊢ run c (onBufs (k0_part16 (F := F)) c v2 v402) fun _ => iprop(plan c ((1, 1, 2) :: (1, 2, 0) :: (1, 1, 0) :: d) l) := by
  rw [k0_part16_eq_skeleton]
  unfold onBufs k0_part16_skel
  simp only [Prog.lift, Prog.bind_op, Prog.bind_ret, Prog.pure_eq_ret]
  iintro ⟨#HR, ⟨H0, H1, H2⟩, HP⟩
  iapply (wp_go_ctx m K c _ _ _ 1 1 0 (Fin.ext (k0_dev18_eq c)) (qC_snd 1 1 0) (qC_rcv 1 1 2)) $$ [HP H0]
  · isplitr; · iexact HR
    isplitl [HP]; · iexact HP
    iexact H0
  iintro HP
  iapply (wp_go_den m K c _ _ _ 1 0 (Fin.ext (k0_dev19_eq c)) (qS_snd 1 0) (qS_rcv 1 2)) $$ [HP H1]
  · isplitr; · iexact HR
    isplitl [HP]; · iexact HP
    iexact H1
  iintro HP
  iapply (wp_go_ctx m K c _ _ _ 1 1 2 (Fin.ext (k0_dev20_eq c)) (qC_snd 1 1 2) (qC_rcv 1 1 0)) $$ [HP H2]
  · isplitr; · iexact HR
    isplitl [HP]; · iexact HP
    iexact H2
  iintro HP
  unfold run
  rw [wp_ret]
  imodintro
  iexact HP

end Cert.KernelIdeal.Attn

end
-- ==== Proof.PartsB.lean ====
/-
# The parts of the body that wait, and the result

The arrivals of a batch are awaited in the order the kernel takes them; then the four slots are read, added up, divided
and carried through the output weights. Last, the departures are awaited.
-/
module

public import proofs.«01_k».proof.Proof.PartsA

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Ck → ℕ)

/-- A slot's credit, in the transfers' own unit. -/
theorem crC (s : Fin 4) (b w : Fin 2) : (cM s b w).view.dmaCredit = amt w.castSucc := amt_ctx s b w (sndSem (0, 0, 0))
theorem crS (s : Fin 4) (b : Fin 2) : (sM s b).view.dmaCredit = amt 2 := amt_den s b (sndSem (0, 0, 0))

theorem part17 (c : Dev nD) (v119 v131 v424 : BitVec 32) (d l : List Tr) :
    iprop(records m K ∗ lent m c 1 2 2 ∗ plan c d [(1, 2, 2)] ∗ each (due c) ((0, 0, 1) :: l))
      ⊢ run c (onBufs (k0_part17 (F := F)) c v119 v131 v424) fun _ => iprop(each (away c) ((1, 2, 2) :: d) ∗ inbox m c [(0, 0, 1)] l) := by
  rw [k0_part17_eq_skeleton]
  unfold onBufs k0_part17_skel
  simp only [Prog.lift, Prog.bind_op, Prog.bind_ret, Prog.pure_eq_ret]
  iintro ⟨#HR, H0, HP, HD⟩
  iapply (wp_go_den m K c _ _ _ 1 2 (Fin.ext (k0_dev21_eq c)) (qS_snd 1 2) (qS_rcv 1 0)) $$ [HP H0]
  · isplitr; · iexact HR
    isplitl [HP]; · iexact HP
    iexact H0
  iintro HP
  have hb : iprop(plan c ((1, 2, 2) :: d) [] ∗ each (due c) ((0, 0, 1) :: l))
      ⊢ (iprop(each (away c) ((1, 2, 2) :: d) ∗ inbox m c [] ((0, 0, 1) :: l)) : sProp 𝕄) := by
    have e1 : (each (arrived m c) [] : sProp 𝕄) = iprop(emp) := rfl
    unfold plan inbox
    rw [e1]
    iintro ⟨⟨HO, -, HA⟩, HD⟩
    isplitl [HA]; · iexact HA
    isplitl [HO]; · iexact HO
    isplitl [HD]; · iexact HD
    iempintro
  ihave HP := hb $$ [HP HD]
  · isplitl [HP]; · iexact HP
    iexact HD
  icases HP with ⟨HA, HB⟩
  iapply (wp_in m K c _ _ (0, 0, 1) (qC_rcv 0 0 1) (crC 2 0 0)) $$ [HB]
  · isplitr; · iexact HR
    iexact HB
  iintro HB
  unfold run
  rw [wp_ret]
  imodintro
  isplitl [HA]; · iexact HA
  iexact HB

theorem part18 (c : Dev nD) (v143 v195 v453 v0 : BitVec 32) (d l : List Tr) :
    iprop(records m K ∗ inbox m c d ((0, 0, 2) :: (0, 0, 0) :: l))
      ⊢ run c (onBufs (k0_part18 (F := F)) v143 v195 v453 v0) fun _ => iprop(inbox m c ((0, 0, 0) :: (0, 0, 2) :: d) l) := by
  rw [k0_part18_eq_skeleton]
  unfold onBufs k0_part18_skel
  simp only [Prog.lift, Prog.bind_op, Prog.bind_ret, Prog.pure_eq_ret]
  iintro ⟨#HR, HB⟩
  iapply (wp_in m K c _ _ (0, 0, 2) (qC_rcv 0 0 2) (crC 3 0 0)) $$ [HB]
  · isplitr; · iexact HR
    iexact HB
  iintro HB
  iapply (wp_in m K c _ _ (0, 0, 0) (qC_rcv 0 0 0) (crC 1 0 0)) $$ [HB]
  · isplitr; · iexact HR
    iexact HB
  iintro HB
  unfold run
  rw [wp_ret]
  imodintro
  iexact HB

theorem part19 (c : Dev nD) (v195 v217 : BitVec 32) (d l : List Tr) :
    iprop(records m K ∗ inbox m c d ((0, 1, 1) :: (0, 2, 1) :: (0, 1, 2) :: l))
      ⊢ run c (onBufs (k0_part19 (F := F)) v195 v217) fun _ => iprop(inbox m c ((0, 1, 2) :: (0, 2, 1) :: (0, 1, 1) :: d) l) := by
  rw [k0_part19_eq_skeleton]
  unfold onBufs k0_part19_skel
  simp only [Prog.lift, Prog.bind_op, Prog.bind_ret, Prog.pure_eq_ret]
  iintro ⟨#HR, HB⟩
  iapply (wp_in m K c _ _ (0, 1, 1) (qC_rcv 0 1 1) (crC 2 0 1)) $$ [HB]
  · isplitr; · iexact HR
    iexact HB
  iintro HB
  iapply (wp_in m K c _ _ (0, 2, 1) (qS_rcv 0 1) (crS 2 0)) $$ [HB]
  · isplitr; · iexact HR
    iexact HB
  iintro HB
  iapply (wp_in m K c _ _ (0, 1, 2) (qC_rcv 0 1 2) (crC 3 0 1)) $$ [HB]
  · isplitr; · iexact HR
    iexact HB
  iintro HB
  unfold run
  rw [wp_ret]
  imodintro
  iexact HB

theorem part20 (c : Dev nD) (v239 v493 : BitVec 32) (d l : List Tr) :
    iprop(records m K ∗ inbox m c d ((0, 2, 2) :: (0, 1, 0) :: l))
      ⊢ run c (onBufs (k0_part20 (F := F)) v239 v493) fun _ => iprop(inbox m c ((0, 1, 0) :: (0, 2, 2) :: d) l) := by
  rw [k0_part20_eq_skeleton]
  unfold onBufs k0_part20_skel
  simp only [Prog.lift, Prog.bind_op, Prog.bind_ret, Prog.pure_eq_ret]
  iintro ⟨#HR, HB⟩
  iapply (wp_in m K c _ _ (0, 2, 2) (qS_rcv 0 2) (crS 3 0)) $$ [HB]
  · isplitr; · iexact HR
    iexact HB
  iintro HB
  iapply (wp_in m K c _ _ (0, 1, 0) (qC_rcv 0 1 0) (crC 1 0 1)) $$ [HB]
  · isplitr; · iexact HR
    iexact HB
  iintro HB
  unfold run
  rw [wp_ret]
  imodintro
  iexact HB

/-- The inbox once a batch is complete: its slots on the shelf. -/
theorem inbox_full (c : Dev nD) (b : Fin 2) (l : List Tr) :
    iprop(kept m c b ∗ inbox m c (came b) l) ⊢ (iprop(shelf m c b ∗ each (arrZ c) (came b) ∗ inbox m c [] l) : sProp 𝕄) := by
  have e : (each (arrived m c) [] : sProp 𝕄) = iprop(emp) := rfl
  unfold inbox
  rw [e]
  iintro ⟨HK, HO, HD, HA⟩
  ihave H := (shelve m c b) $$ [HK HA]
  · isplitl [HK]; · iexact HK
    iexact HA
  icases H with ⟨HS, HZ⟩
  isplitl [HS]; · iexact HS
  isplitl [HZ]; · iexact HZ
  isplitl [HO]; · iexact HO
  isplitl [HD]; · iexact HD
  iempintro

theorem part21 (c : Dev nD) (l : List Tr) :
    iprop(records m K ∗ kept m c 0 ∗ inbox m c [(0, 1, 0), (0, 2, 2), (0, 1, 2), (0, 2, 1), (0, 1, 1), (0, 0, 0), (0, 0, 2), (0, 0, 1)] ((0, 2, 0) :: l))
      ⊢ run c (onBufs (k0_part21 (F := F))) fun v => iprop(⌜v = ⟨k0_pay38 (ldC m c 0 0) (ldC m c 1 0) (ldC m c 2 0) (ldC m c 3 0),
            k0_pay39 (ldD m c 0 0) (ldD m c 1 0) (ldD m c 2 0) (ldD m c 3 0), Scalar.ofBits .f32 0x3F800000#32⟩⌝
          ∗ shelf m c 0 ∗ each (arrZ c) (came 0) ∗ inbox m c [] l) := by
  rw [k0_part21_eq_skeleton]
  unfold onBufs k0_part21_skel
  simp only [Prog.lift, Prog.bind_op, Prog.bind_ret, Prog.pure_eq_ret]
  iintro ⟨#HR, HK, HB⟩
  iapply (wp_in m K c _ _ (0, 2, 0) (qS_rcv 0 0) (crS 1 0)) $$ [HB]
  · isplitr; · iexact HR
    iexact HB
  iintro HB
  ihave HB := (inbox_full m c 0 l) $$ [HK HB]
  · isplitl [HK]; · iexact HK
    iexact HB
  icases HB with ⟨HS, HZ, HB⟩
  iapply (wp_readC m c 0 0) $$ HS
  iintro HS
  iapply (wp_readC m c 0 1) $$ HS
  iintro HS
  iapply (wp_readC m c 0 2) $$ HS
  iintro HS
  iapply (wp_readC m c 0 3) $$ HS
  iintro HS
  iapply (wp_readS m c 0 0) $$ HS
  iintro HS
  iapply (wp_readS m c 0 1) $$ HS
  iintro HS
  iapply (wp_readS m c 0 2) $$ HS
  iintro HS
  iapply (wp_readS m c 0 3) $$ HS
  iintro HS
  unfold run
  rw [wp_ret]
  imodintro
  isplitr
  · ipureintro; rfl
  isplitl [HS]; · iexact HS
  isplitl [HZ]; · iexact HZ
  iexact HB

theorem part22 (c : Dev nD) (v304 : BitVec 32) (d l : List Tr) :
    iprop(records m K ∗ oAcc m c 0 ∗ inbox m c d ((1, 0, 1) :: l))
      ⊢ run c (onBufs (k0_part22 (F := F)) (k0_pay2 (ldWo m c)) v304 (k0_pay38 (ldC m c 0 0) (ldC m c 1 0) (ldC m c 2 0) (ldC m c 3 0))
          (k0_pay39 (ldD m c 0 0) (ldD m c 1 0) (ldD m c 2 0) (ldD m c 3 0)) (Scalar.ofBits .f32 0x3F800000#32)) fun _ =>
          iprop(oAcc m c 1 ∗ inbox m c ((1, 0, 1) :: d) l) := by
  rw [k0_part22_eq_skeleton]
  unfold onBufs k0_part22_skel
  simp only [Prog.lift, Prog.bind_op, Prog.bind_ret, Prog.pure_eq_ret]
  iintro ⟨#HR, HW, HB⟩
  iapply (wp_fill_o m c 0 0 rfl rfl) $$ HW
  iintro HW
  iapply (wp_in m K c _ _ (1, 0, 1) (qC_rcv 1 0 1) (crC 2 1 0)) $$ [HB]
  · isplitr; · iexact HR
    iexact HB
  iintro HB
  unfold run
  rw [wp_ret]
  imodintro
  isplitl [HW]; · iexact HW
  iexact HB

theorem part23 (c : Dev nD) (v316 v328 v380 : BitVec 32) (d l : List Tr) :
    iprop(records m K ∗ inbox m c d ((1, 0, 2) :: (1, 0, 0) :: l))
      ⊢ run c (onBufs (k0_part23 (F := F)) v316 v328 v380) fun _ => iprop(inbox m c ((1, 0, 0) :: (1, 0, 2) :: d) l) := by
  rw [k0_part23_eq_skeleton]
  unfold onBufs k0_part23_skel
  simp only [Prog.lift, Prog.bind_op, Prog.bind_ret, Prog.pure_eq_ret]
  iintro ⟨#HR, HB⟩
  iapply (wp_in m K c _ _ (1, 0, 2) (qC_rcv 1 0 2) (crC 3 1 0)) $$ [HB]
  · isplitr; · iexact HR
    iexact HB
  iintro HB
  iapply (wp_in m K c _ _ (1, 0, 0) (qC_rcv 1 0 0) (crC 1 1 0)) $$ [HB]
  · isplitr; · iexact HR
    iexact HB
  iintro HB
  unfold run
  rw [wp_ret]
  imodintro
  iexact HB

theorem part24 (c : Dev nD) (v380 v402 : BitVec 32) (d l : List Tr) :
    iprop(records m K ∗ inbox m c d ((1, 1, 1) :: (1, 2, 1) :: (1, 1, 2) :: l))
      ⊢ run c (onBufs (k0_part24 (F := F)) v380 v402) fun _ => iprop(inbox m c ((1, 1, 2) :: (1, 2, 1) :: (1, 1, 1) :: d) l) := by
  rw [k0_part24_eq_skeleton]
  unfold onBufs k0_part24_skel
  simp only [Prog.lift, Prog.bind_op, Prog.bind_ret, Prog.pure_eq_ret]
  iintro ⟨#HR, HB⟩
  iapply (wp_in m K c _ _ (1, 1, 1) (qC_rcv 1 1 1) (crC 2 1 1)) $$ [HB]
  · isplitr; · iexact HR
    iexact HB
  iintro HB
  iapply (wp_in m K c _ _ (1, 2, 1) (qS_rcv 1 1) (crS 2 1)) $$ [HB]
  · isplitr; · iexact HR
    iexact HB
  iintro HB
  iapply (wp_in m K c _ _ (1, 1, 2) (qC_rcv 1 1 2) (crC 3 1 1)) $$ [HB]
  · isplitr; · iexact HR
    iexact HB
  iintro HB
  unfold run
  rw [wp_ret]
  imodintro
  iexact HB

theorem part25 (c : Dev nD) (v402 v424 : BitVec 32) (d l : List Tr) :
    iprop(records m K ∗ inbox m c d ((1, 2, 2) :: (1, 1, 0) :: l))
      ⊢ run c (onBufs (k0_part25 (F := F)) v402 v424) fun _ => iprop(inbox m c ((1, 1, 0) :: (1, 2, 2) :: d) l) := by
  rw [k0_part25_eq_skeleton]
  unfold onBufs k0_part25_skel
  simp only [Prog.lift, Prog.bind_op, Prog.bind_ret, Prog.pure_eq_ret]
  iintro ⟨#HR, HB⟩
  iapply (wp_in m K c _ _ (1, 2, 2) (qS_rcv 1 2) (crS 3 1)) $$ [HB]
  · isplitr; · iexact HR
    iexact HB
  iintro HB
  iapply (wp_in m K c _ _ (1, 1, 0) (qC_rcv 1 1 0) (crC 1 1 1)) $$ [HB]
  · isplitr; · iexact HR
    iexact HB
  iintro HB
  unfold run
  rw [wp_ret]
  imodintro
  iexact HB

theorem part26 (c : Dev nD) (l : List Tr) :
    iprop(records m K ∗ kept m c 1 ∗ inbox m c [(1, 1, 0), (1, 2, 2), (1, 1, 2), (1, 2, 1), (1, 1, 1), (1, 0, 0), (1, 0, 2), (1, 0, 1)] ((1, 2, 0) :: l))
      ⊢ run c (onBufs (k0_part26 (F := F))) fun v => iprop(⌜v = ⟨k0_pay41 (ldC m c 0 1) (ldC m c 1 1) (ldC m c 2 1) (ldC m c 3 1),
            k0_pay42 (ldD m c 0 1) (ldD m c 1 1) (ldD m c 2 1)⟩⌝
          ∗ shelf m c 1 ∗ each (arrZ c) (came 1) ∗ inbox m c [] l) := by
  rw [k0_part26_eq_skeleton]
  unfold onBufs k0_part26_skel
  simp only [Prog.lift, Prog.bind_op, Prog.bind_ret, Prog.pure_eq_ret]
  iintro ⟨#HR, HK, HB⟩
  iapply (wp_in m K c _ _ (1, 2, 0) (qS_rcv 1 0) (crS 1 1)) $$ [HB]
  · isplitr; · iexact HR
    iexact HB
  iintro HB
  ihave HB := (inbox_full m c 1 l) $$ [HK HB]
  · isplitl [HK]; · iexact HK
    iexact HB
  icases HB with ⟨HS, HZ, HB⟩
  iapply (wp_readC m c 1 0) $$ HS
  iintro HS
  iapply (wp_readC m c 1 1) $$ HS
  iintro HS
  iapply (wp_readC m c 1 2) $$ HS
  iintro HS
  iapply (wp_readC m c 1 3) $$ HS
  iintro HS
  iapply (wp_readS m c 1 0) $$ HS
  iintro HS
  iapply (wp_readS m c 1 1) $$ HS
  iintro HS
  iapply (wp_readS m c 1 2) $$ HS
  iintro HS
  unfold run
  rw [wp_ret]
  imodintro
  isplitr
  · ipureintro; rfl
  isplitl [HS]; · iexact HS
  isplitl [HZ]; · iexact HZ
  iexact HB

theorem part27 (c : Dev nD) (l : List Tr) :
    iprop(records m K ∗ oAcc m c 1 ∗ shelf m c 1 ∗ inbox m c [] [] ∗ each (away c) ((0, 0, 1) :: l))
      ⊢ run c (onBufs (k0_part27 (F := F)) (k0_pay2 (ldWo m c)) (k0_pay41 (ldC m c 0 1) (ldC m c 1 1) (ldC m c 2 1) (ldC m c 3 1))
          (k0_pay42 (ldD m c 0 1) (ldD m c 1 1) (ldD m c 2 1))) fun _ =>
          iprop(oAcc m c 2 ∗ shelf m c 1 ∗ outbox m c [(0, 0, 1)] l) := by
  rw [k0_part27_eq_skeleton]
  unfold onBufs k0_part27_skel
  simp only [Prog.lift, Prog.bind_op, Prog.bind_ret, Prog.pure_eq_ret]
  iintro ⟨#HR, HW, HS, HB, HA⟩
  iapply (wp_readS m c 1 3) $$ HS
  iintro HS
  iapply (wp_fill_o m c 1 1 rfl rfl) $$ HW
  iintro HW
  have hb : iprop(inbox m c [] [] ∗ each (away c) ((0, 0, 1) :: l)) ⊢ (iprop(outbox m c [] ((0, 0, 1) :: l)) : sProp 𝕄) := by
    have e1 : (each (departed m c) [] : sProp 𝕄) = iprop(emp) := rfl
    unfold inbox outbox
    rw [e1]
    iintro ⟨⟨HO, -⟩, HD⟩
    isplitl [HO]; · iexact HO
    isplitl [HD]; · iexact HD
    iempintro
  ihave HB := hb $$ [HB HA]
  · isplitl [HB]; · iexact HB
    iexact HA
  iapply (wp_out m K c _ _ (0, 0, 1) (qC_snd 0 0 1) (crC 0 0 0)) $$ [HB]
  · isplitr; · iexact HR
    iexact HB
  iintro HB
  unfold run
  rw [wp_ret]
  imodintro
  isplitl [HW]; · iexact HW
  isplitl [HS]; · iexact HS
  iexact HB

theorem part28 (c : Dev nD) (d l : List Tr) :
    iprop(records m K ∗ outbox m c d ((0, 0, 0) :: (0, 0, 2) :: l))
      ⊢ run c (onBufs (k0_part28 (F := F))) fun _ => iprop(outbox m c ((0, 0, 2) :: (0, 0, 0) :: d) l) := by
  rw [k0_part28_eq_skeleton]
  unfold onBufs k0_part28_skel
  simp only [Prog.lift, Prog.bind_op, Prog.bind_ret, Prog.pure_eq_ret]
  iintro ⟨#HR, HB⟩
  iapply (wp_out m K c _ _ (0, 0, 0) (qC_snd 0 0 0) (crC 0 0 0)) $$ [HB]
  · isplitr; · iexact HR
    iexact HB
  iintro HB
  iapply (wp_out m K c _ _ (0, 0, 2) (qC_snd 0 0 2) (crC 0 0 0)) $$ [HB]
  · isplitr; · iexact HR
    iexact HB
  iintro HB
  unfold run
  rw [wp_ret]
  imodintro
  iexact HB

theorem part29 (c : Dev nD) (d l : List Tr) :
    iprop(records m K ∗ outbox m c d ((0, 1, 1) :: (0, 2, 1) :: (0, 1, 0) :: l))
      ⊢ run c (onBufs (k0_part29 (F := F))) fun _ => iprop(outbox m c ((0, 1, 0) :: (0, 2, 1) :: (0, 1, 1) :: d) l) := by
  rw [k0_part29_eq_skeleton]
  unfold onBufs k0_part29_skel
  simp only [Prog.lift, Prog.bind_op, Prog.bind_ret, Prog.pure_eq_ret]
  iintro ⟨#HR, HB⟩
  iapply (wp_out m K c _ _ (0, 1, 1) (qC_snd 0 1 1) (crC 0 0 1)) $$ [HB]
  · isplitr; · iexact HR
    iexact HB
  iintro HB
  iapply (wp_out m K c _ _ (0, 2, 1) (qS_snd 0 1) (crS 0 0)) $$ [HB]
  · isplitr; · iexact HR
    iexact HB
  iintro HB
  iapply (wp_out m K c _ _ (0, 1, 0) (qC_snd 0 1 0) (crC 0 0 1)) $$ [HB]
  · isplitr; · iexact HR
    iexact HB
  iintro HB
  unfold run
  rw [wp_ret]
  imodintro
  iexact HB

theorem part30 (c : Dev nD) (d l : List Tr) :
    iprop(records m K ∗ outbox m c d ((0, 2, 0) :: (0, 1, 2) :: (0, 2, 2) :: l))
      ⊢ run c (onBufs (k0_part30 (F := F))) fun _ => iprop(outbox m c ((0, 2, 2) :: (0, 1, 2) :: (0, 2, 0) :: d) l) := by
  rw [k0_part30_eq_skeleton]
  unfold onBufs k0_part30_skel
  simp only [Prog.lift, Prog.bind_op, Prog.bind_ret, Prog.pure_eq_ret]
  iintro ⟨#HR, HB⟩
  iapply (wp_out m K c _ _ (0, 2, 0) (qS_snd 0 0) (crS 0 0)) $$ [HB]
  · isplitr; · iexact HR
    iexact HB
  iintro HB
  iapply (wp_out m K c _ _ (0, 1, 2) (qC_snd 0 1 2) (crC 0 0 1)) $$ [HB]
  · isplitr; · iexact HR
    iexact HB
  iintro HB
  iapply (wp_out m K c _ _ (0, 2, 2) (qS_snd 0 2) (crS 0 0)) $$ [HB]
  · isplitr; · iexact HR
    iexact HB
  iintro HB
  unfold run
  rw [wp_ret]
  imodintro
  iexact HB

theorem part31 (c : Dev nD) (d l : List Tr) :
    iprop(records m K ∗ outbox m c d ((1, 0, 1) :: (1, 0, 0) :: (1, 0, 2) :: l))
      ⊢ run c (onBufs (k0_part31 (F := F))) fun _ => iprop(outbox m c ((1, 0, 2) :: (1, 0, 0) :: (1, 0, 1) :: d) l) := by
  rw [k0_part31_eq_skeleton]
  unfold onBufs k0_part31_skel
  simp only [Prog.lift, Prog.bind_op, Prog.bind_ret, Prog.pure_eq_ret]
  iintro ⟨#HR, HB⟩
  iapply (wp_out m K c _ _ (1, 0, 1) (qC_snd 1 0 1) (crC 0 1 0)) $$ [HB]
  · isplitr; · iexact HR
    iexact HB
  iintro HB
  iapply (wp_out m K c _ _ (1, 0, 0) (qC_snd 1 0 0) (crC 0 1 0)) $$ [HB]
  · isplitr; · iexact HR
    iexact HB
  iintro HB
  iapply (wp_out m K c _ _ (1, 0, 2) (qC_snd 1 0 2) (crC 0 1 0)) $$ [HB]
  · isplitr; · iexact HR
    iexact HB
  iintro HB
  unfold run
  rw [wp_ret]
  imodintro
  iexact HB

theorem part32 (c : Dev nD) (d l : List Tr) :
    iprop(records m K ∗ outbox m c d ((1, 1, 1) :: (1, 2, 1) :: (1, 1, 0) :: l))
      ⊢ run c (onBufs (k0_part32 (F := F))) fun _ => iprop(outbox m c ((1, 1, 0) :: (1, 2, 1) :: (1, 1, 1) :: d) l) := by
  rw [k0_part32_eq_skeleton]
  unfold onBufs k0_part32_skel
  simp only [Prog.lift, Prog.bind_op, Prog.bind_ret, Prog.pure_eq_ret]
  iintro ⟨#HR, HB⟩
  iapply (wp_out m K c _ _ (1, 1, 1) (qC_snd 1 1 1) (crC 0 1 1)) $$ [HB]
  · isplitr; · iexact HR
    iexact HB
  iintro HB
  iapply (wp_out m K c _ _ (1, 2, 1) (qS_snd 1 1) (crS 0 1)) $$ [HB]
  · isplitr; · iexact HR
    iexact HB
  iintro HB
  iapply (wp_out m K c _ _ (1, 1, 0) (qC_snd 1 1 0) (crC 0 1 1)) $$ [HB]
  · isplitr; · iexact HR
    iexact HB
  iintro HB
  unfold run
  rw [wp_ret]
  imodintro
  iexact HB

theorem part33 (c : Dev nD) (d l : List Tr) :
    iprop(records m K ∗ outbox m c d ((1, 2, 0) :: (1, 1, 2) :: l))
      ⊢ run c (onBufs (k0_part33 (F := F))) fun _ => iprop(outbox m c ((1, 1, 2) :: (1, 2, 0) :: d) l) := by
  rw [k0_part33_eq_skeleton]
  unfold onBufs k0_part33_skel
  simp only [Prog.lift, Prog.bind_op, Prog.bind_ret, Prog.pure_eq_ret]
  iintro ⟨#HR, HB⟩
  iapply (wp_out m K c _ _ (1, 2, 0) (qS_snd 1 0) (crS 0 1)) $$ [HB]
  · isplitr; · iexact HR
    iexact HB
  iintro HB
  iapply (wp_out m K c _ _ (1, 1, 2) (qC_snd 1 1 2) (crC 0 1 1)) $$ [HB]
  · isplitr; · iexact HR
    iexact HB
  iintro HB
  unfold run
  rw [wp_ret]
  imodintro
  iexact HB

end Cert.KernelIdeal.Attn

end
-- ==== Proof.Ends.lean ====
/-
# Before the first part and after the last

The lists of transfers are the transfers all together; the own slot is opened for filling, and at the end the four slots are
free again.
-/
module

public import proofs.«01_k».proof.Proof.PartsB

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Ck → ℕ)

/-! ## Lists against the transfers all together -/

theorem each_univ (Φ : Tr → sProp 𝕄) (l : List Tr) (hn : l.Nodup) (hu : l.toFinset = Finset.univ) : each Φ l = bigSep Finset.univ Φ := by
  rw [each_eq Φ l hn, hu]
theorem each_append (Φ : Tr → sProp 𝕄) (l r : List Tr) : iprop(each Φ l ∗ each Φ r) ⊢ each Φ (l ++ r) := by
  induction l with
  | nil =>
    show iprop(emp ∗ each Φ r) ⊢ each Φ r
    iintro ⟨-, H⟩; iexact H
  | cons x l ih =>
    show iprop((Φ x ∗ each Φ l) ∗ each Φ r) ⊢ iprop(Φ x ∗ each Φ (l ++ r))
    iintro ⟨⟨Hx, Hl⟩, Hr⟩
    isplitl [Hx]; · iexact Hx
    iapply ih
    isplitl [Hl]; · iexact Hl
    iexact Hr

/-- The arrivals in the order they are awaited. -/
def inOrder : List Tr := [(0, 0, 1), (0, 0, 2), (0, 0, 0), (0, 1, 1), (0, 2, 1), (0, 1, 2), (0, 2, 2), (0, 1, 0), (0, 2, 0),
  (1, 0, 1), (1, 0, 2), (1, 0, 0), (1, 1, 1), (1, 2, 1), (1, 1, 2), (1, 2, 2), (1, 1, 0), (1, 2, 0)]

/-- Everything by batch, piece and place; a slot of a device by batch and piece. -/
theorem bigSep_tr (Φ : Tr → sProp 𝕄) :
    bigSep Finset.univ Φ = bigSep Finset.univ fun b : Fin 2 => bigSep Finset.univ fun k : Fin 3 => bigSep Finset.univ fun j : Fin 3 => Φ (b, k, j) := by
  rw [bigSep_univ_prod]
  exact congrArg (bigSep Finset.univ) (funext fun b => bigSep_univ_prod _)
/-- The transfers' target slots are what the barrier brought. -/
theorem targets (c : Dev nD) :
    iprop(lands (pl c 2) 0 ∗ lands (pl c 1) 1 ∗ lands (pl c 0) 2)
      ⊢ (bigSep Finset.univ fun x : Tr => land (F := F) (pl c x.2.2) x.1 x.2.1 x.2.2.rev : sProp 𝕄) := by
  have e : (bigSep Finset.univ fun x : Tr => land (F := F) (pl c x.2.2) x.1 x.2.1 x.2.2.rev : sProp 𝕄)
      = bigSep Finset.univ fun x : Fin 2 × Fin 3 => bigSep Finset.univ fun j : Fin 3 => land (F := F) (pl c j) x.1 x.2 j.rev := by
    rw [bigSep_tr, bigSep_univ_prod]
  rw [e]
  have e2 : (fun x : Fin 2 × Fin 3 => bigSep Finset.univ fun j : Fin 3 => (land (F := F) (pl c j) x.1 x.2 j.rev : sProp 𝕄))
      = fun x => iprop(land (pl c 0) x.1 x.2 2 ∗ land (pl c 1) x.1 x.2 1 ∗ land (pl c 2) x.1 x.2 0) :=
    funext fun x => bigSep_fin3 _
  rw [e2, bigSep_sep', bigSep_sep']
  unfold lands
  iintro ⟨H0, H1, H2⟩
  isplitl [H2]; · iexact H2
  isplitl [H1]; · iexact H1
  iexact H0
theorem todos (c : Dev nD) :
    iprop(bigSep Finset.univ (ticket (F := F) c) ∗ lands (pl c 2) 0 ∗ lands (pl c 1) 1 ∗ lands (pl c 0) 2) ⊢ (each (todo c) order : sProp 𝕄) := by
  rw [each_univ (todo c) order (by decide) (by decide)]
  show _ ⊢ bigSep Finset.univ fun x : Tr => iprop(ticket c x ∗ land (F := F) (pl c x.2.2) x.1 x.2.1 x.2.2.rev)
  rw [bigSep_sep']
  iintro ⟨HT, HL⟩
  isplitl [HT]; · iexact HT
  iapply (targets c); iexact HL

/-! ## The own slot before, the slots after -/

theorem fresh (c : Dev nD) :
    (hold (F := F) c 0 : sProp 𝕄) ⊢ iprop((cAcc m c 0 0 0 ∗ cAcc m c 0 1 0 ∗ sAcc m c 0 0) ∗ (cAcc m c 1 0 0 ∗ cAcc m c 1 1 0 ∗ sAcc m c 1 0)) := by
  have hc : ∀ b w : Fin 2, (iprop(∃ f, cPts c 0 b w fullShare f) : sProp 𝕄) ⊢ cAcc m c b w 0 := fun b w => by
    unfold cAcc
    simp only [cPts_eq]
    iintro ⟨%f, H⟩
    iexists f
    isplitr
    · ipureintro; intro i hi h
      exact absurd h (by have := (mem_cSet.mp hi).2.2; omega)
    iexact H
  have hs : ∀ b : Fin 2, (iprop(∃ f, sPts c 0 b fullShare f) : sProp 𝕄) ⊢ sAcc m c b 0 := fun b => by
    unfold sAcc
    simp only [sPts_eq]
    iintro ⟨%f, H⟩
    iexists f
    isplitr
    · ipureintro; intro i hi h
      exact absurd h (by omega)
    iexact H
  have hb : ∀ b : Fin 2, (bigSep Finset.univ fun k : Fin 3 => (spot c 0 b k : sProp 𝕄)) ⊢ iprop(cAcc m c b 0 0 ∗ cAcc m c b 1 0 ∗ sAcc m c b 0) := fun b => by
    rw [bigSep_fin3]
    exact BIClass.sep_mono (hc b 0) (BIClass.sep_mono (hc b 1) (hs b))
  unfold hold
  rw [bigSep_univ_prod, bigSep_fin2]
  exact BIClass.sep_mono (hb 0) (hb 1)

/-- A landed slot is a free one. -/
theorem slot_land (c : Dev nD) (b : Fin 2) (j : Fin 3) :
    (slot m c b j.succ fullShare : sProp 𝕄) ⊢ bigSep Finset.univ fun k : Fin 3 => land (F := F) c b k j := by
  rw [bigSep_fin3]
  show iprop((cPts c j.succ b 0 fullShare (CTX m c) ∗ cPts c j.succ b 1 fullShare (CTX m c)) ∗ sHas m c j.succ b fullShare)
    ⊢ iprop((∃ f, cPts c j.succ b 0 fullShare f) ∗ (∃ f, cPts c j.succ b 1 fullShare f) ∗ ∃ f, sPts c j.succ b fullShare f)
  unfold sHas
  iintro ⟨⟨H0, H1⟩, ⟨%f, -, H2⟩⟩
  isplitl [H0]; · iexists _; iexact H0
  isplitl [H1]; · iexists _; iexact H1
  iexists f; iexact H2
/-- The own slot, its lent shares back. -/
theorem slot_hold (c : Dev nD) (b : Fin 2) :
    iprop(slot m c b 0 shK ∗ bigSep Finset.univ fun k : Fin 3 => bigSep Finset.univ fun j : Fin 3 => lent m c b k j)
      ⊢ (bigSep Finset.univ fun k : Fin 3 => spot c 0 b k : sProp 𝕄) := by
  rw [bigSep_fin3, bigSep_fin3, bigSep_fin3, bigSep_fin3, bigSep_fin3]
  show _ ⊢ iprop((∃ f, cPts c 0 b 0 fullShare f) ∗ (∃ f, cPts c 0 b 1 fullShare f) ∗ ∃ f, sPts c 0 b fullShare f)
  unfold slot
  iintro ⟨⟨⟨K0, K1⟩, K2⟩, L0, L1, L2⟩
  isplitl [K0 L0]
  · iapply (rejoin_c m c b 0)
    isplitl [K0]; · iexact K0
    iexact L0
  isplitl [K1 L1]
  · iapply (rejoin_c m c b 1)
    isplitl [K1]; · iexact K1
    iexact L1
  iapply (rejoin_s m c b)
  isplitl [K2]; · iexact K2
  iexact L2
/-- Both batches' slots and the lent shares make the four slots free. -/
theorem tidy (c : Dev nD) :
    iprop(shelf m c 0 ∗ shelf m c 1 ∗ bigSep Finset.univ fun x : Tr => lent m c x.1 x.2.1 x.2.2)
      ⊢ (iprop(hold c 0 ∗ lands c 0 ∗ lands c 1 ∗ lands c 2) : sProp 𝕄) := by
  unfold hold lands shelf
  rw [bigSep_tr, bigSep_univ_prod, bigSep_univ_prod, bigSep_univ_prod, bigSep_univ_prod, bigSep_fin2, bigSep_fin2, bigSep_fin2, bigSep_fin2, bigSep_fin2]
  iintro ⟨⟨A0, A1, A2, A3⟩, ⟨B0, B1, B2, B3⟩, LA, LB⟩
  isplitl [A0 B0 LA LB]
  · isplitl [A0 LA]
    · iapply (slot_hold m c 0)
      isplitl [A0]; · iexact A0
      iexact LA
    · iapply (slot_hold m c 1)
      isplitl [B0]; · iexact B0
      iexact LB
  isplitl [A1 B1]
  · isplitl [A1]
    · iapply (slot_land m c 0 0); iexact A1
    · iapply (slot_land m c 1 0); iexact B1
  isplitl [A2 B2]
  · isplitl [A2]
    · iapply (slot_land m c 0 1); iexact A2
    · iapply (slot_land m c 1 1); iexact B2
  isplitl [A3]
  · iapply (slot_land m c 0 2); iexact A3
  · iapply (slot_land m c 1 2); iexact B3

end Cert.KernelIdeal.Attn

end
-- ==== Proof.Body.lean ====
/-
# The body's parts in sequence

From the two landing buffers free and the rights to every transfer, to the two buffers free again, every own semaphore at
rest and the result in its window.
-/
module

public import proofs.«01_k».proof.Proof.Ends

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Ck → ℕ)

/-- What the body starts from, and what it leaves. -/
def given (c : Dev nD) : sProp 𝕄 :=
  iprop(ins m c ∗ entry c ∗ hold c 0 ∗ oAcc m c 0 ∗ bigSep Finset.univ (ticket (F := F) c) ∗ bigSep Finset.univ (due (F := F) c))
def left (c : Dev nD) : sProp 𝕄 :=
  iprop(ins m c ∗ oAcc m c 2 ∗ (hold c 0 ∗ lands c 0 ∗ lands c 1 ∗ lands c 2)
    ∗ bigSep Finset.univ (arrZ (F := F) c) ∗ bigSep Finset.univ (depZ (F := F) c) ∗ semVal (kcell (c, none)) 0 ∗ owing c 0)

/-- What the departures leave. -/
theorem outbox_full (c : Dev nD) (l : List Tr) (hn : l.Nodup) (hu : l.toFinset = Finset.univ) :
    (outbox m c l [] : sProp 𝕄) ⊢ iprop(owing c 0 ∗ (bigSep Finset.univ fun x : Tr => lent m c x.1 x.2.1 x.2.2) ∗ bigSep Finset.univ (depZ (F := F) c)) := by
  have e : (bigSep Finset.univ (departed m c) : sProp 𝕄)
      = iprop((bigSep Finset.univ fun x : Tr => lent m c x.1 x.2.1 x.2.2) ∗ bigSep Finset.univ (depZ (F := F) c)) := bigSep_sep' _ _ _
  unfold outbox
  rw [each_univ (departed m c) l hn hu, e]
  iintro ⟨HO, -, HD⟩
  isplitl [HO]; · iexact HO
  iexact HD

/-- The start of the plan. -/
theorem planned (c : Dev nD) :
    iprop(bigSep Finset.univ (ticket (F := F) c) ∗ entered (F := F) c)
      ⊢ (iprop(semVal (kcell (c, none)) 0 ∗ plan c [] order) : sProp 𝕄) := by
  have e1 : (each (away (F := F) c) [] : sProp 𝕄) = iprop(emp) := rfl
  unfold entered plan
  rw [e1]
  iintro ⟨HT, L0, L1, L2, HZ, HO⟩
  isplitl [HZ]; · iexact HZ
  isplitl [HO]; · iexact HO
  isplitl [HT L0 L1 L2]
  · iapply (todos c)
    isplitl [HT]; · iexact HT
    isplitl [L0]; · iexact L0
    isplitl [L1]; · iexact L1
    iexact L2
  iempintro

set_option maxHeartbeats 1600000 in
/-- The body. -/
theorem body (c : Dev nD) :
    iprop(records m K ∗ given m c) ⊢ run c (onBufs (cc0_body (F := F))) fun _ => left m c := by
  unfold given
  rw [cc0_body_eq_skeleton]
  unfold onBufs cc0_body_skel
  iintro ⟨#HR, HI, HE, HH, HW, HT, HU⟩
  iapply (seq (part1 m K c)) $$ [HI HE]
  · isplitr; · iexact HR
    isplitl [HI]; · iexact HI
    iexact HE
  iintro %v ⟨%e, HI, HE⟩
  obtain ⟨v2, rfl⟩ := e
  dsimp only
  ihave HP := (planned c) $$ [HT HE]
  · isplitl [HT]; · iexact HT
    iexact HE
  icases HP with ⟨HZ, HP⟩
  ihave HH := (fresh m c) $$ HH
  icases HH with ⟨⟨C0, C1, S0⟩, ⟨D0, D1, S1⟩⟩
  iapply (seq (part2 c)) $$ []
  · iempintro
  iintro %v %e
  subst e
  iapply (seq (part3 m c)) $$ [HI C0 S0]
  · isplitl [HI]; · iexact HI
    isplitl [C0]; · iexact C0
    iexact S0
  iintro %v ⟨%e, HI, C0, S0⟩
  subst e
  dsimp only
  iapply (seq (part4 m K c v2 (order.drop 1))) $$ [C0 S0 HP]
  · isplitr; · iexact HR
    isplitl [C0 S0]
    · isplitl [C0]; · iexact C0
      iexact S0
    iexact HP
  iintro %v ⟨C0, S0, ⟨L0, L2⟩, HP⟩
  obtain ⟨v119, v130⟩ := v
  dsimp only
  iapply (seq (part5 m K c v2 v130 _ (order.drop 3))) $$ [L0 L2 HP]
  · isplitr; · iexact HR
    isplitl [L0 L2]
    · isplitl [L0]; · iexact L0
      iexact L2
    iexact HP
  iintro %v HP
  obtain ⟨v131, v143⟩ := v
  dsimp only
  iapply (seq (part6 m c)) $$ [HI C1 S0]
  · isplitl [HI]; · iexact HI
    isplitl [C1]; · iexact C1
    iexact S0
  iintro %v ⟨%e, HI, C1, S0⟩
  subst e
  dsimp only
  iapply (seq (part7 m K c v2 _ (order.drop 4))) $$ [C1 S0 HP]
  · isplitr; · iexact HR
    isplitl [C1 S0]
    · isplitl [C1]; · iexact C1
      iexact S0
    iexact HP
  iintro %v195 ⟨⟨C1, S0⟩, ⟨L10, L12⟩, ⟨L20, L21, L22⟩, HP⟩
  iapply (seq (part8 m K c v2 v195 _ (order.drop 6))) $$ [L21 L10 HP]
  · isplitr; · iexact HR
    isplitl [L21 L10]
    · isplitl [L21]; · iexact L21
      iexact L10
    iexact HP
  iintro %v HP
  obtain ⟨v217, v228, v0⟩ := v
  dsimp only
  iapply (seq (part9 m K c v2 v228 v0 _ (order.drop 8))) $$ [L20 L12 HP]
  · isplitr; · iexact HR
    isplitl [L20 L12]
    · isplitl [L20]; · iexact L20
      iexact L12
    iexact HP
  iintro %v239 HP
  iapply (seq (part10 m K c _ (order.drop 9))) $$ [HI D0 S1 L22 HP]
  · isplitr; · iexact HR
    isplitl [HI]; · iexact HI
    isplitl [D0 S1]
    · isplitl [D0]; · iexact D0
      iexact S1
    isplitl [L22]; · iexact L22
    iexact HP
  iintro %v ⟨%e, HI, ⟨D0, S1⟩, HP⟩
  subst e
  dsimp only
  iapply (seq (part11 m c v2)) $$ [HI D0 S1]
  · isplitl [HI]; · iexact HI
    isplitl [D0]; · iexact D0
    iexact S1
  iintro %v304 ⟨HI, D0, S1, ⟨L0, L1, L2⟩⟩
  iapply (seq (part12 m K c v2 _ (order.drop 11))) $$ [L1 L0 HP]
  · isplitr; · iexact HR
    isplitl [L1 L0]
    · isplitl [L1]; · iexact L1
      iexact L0
    iexact HP
  iintro %v HP
  obtain ⟨v316, v328⟩ := v
  dsimp only
  iapply (seq (part13 m K c _ (order.drop 12))) $$ [HI D1 S1 L2 HP]
  · isplitr; · iexact HR
    isplitl [HI]; · iexact HI
    isplitl [D1 S1]
    · isplitl [D1]; · iexact D1
      iexact S1
    isplitl [L2]; · iexact L2
    iexact HP
  iintro %v ⟨%e, HI, ⟨D1, S1⟩, HP⟩
  subst e
  dsimp only
  iapply (seq (part14 m c v2)) $$ [HI D1 S1]
  · isplitl [HI]; · iexact HI
    isplitl [D1]; · iexact D1
    iexact S1
  iintro %v380 ⟨HI, ⟨D1, S1⟩, ⟨L10, L11, L12⟩, ⟨L20, L21, L22⟩⟩
  iapply (seq (part15 m K c v2 v380 _ (order.drop 14))) $$ [L11 L21 HP]
  · isplitr; · iexact HR
    isplitl [L11 L21]
    · isplitl [L11]; · iexact L11
      iexact L21
    iexact HP
  iintro %v402 HP
  iapply (seq (part16 m K c v2 v402 _ (order.drop 17))) $$ [L10 L20 L12 HP]
  · isplitr; · iexact HR
    isplitl [L10 L20 L12]
    · isplitl [L10]; · iexact L10
      isplitl [L20]; · iexact L20
      iexact L12
    iexact HP
  iintro %v424 HP
  ihave HU := (Entails.of_eq (each_univ (due (F := F) c) inOrder (by decide) (by decide)).symm) $$ HU
  iapply (seq (part17 m K c v119 v131 v424 _ (inOrder.drop 1))) $$ [L22 HP HU]
  · isplitr; · iexact HR
    isplitl [L22]; · iexact L22
    isplitl [HP]; · iexact HP
    iexact HU
  iintro %v ⟨HA, HB⟩
  obtain ⟨v453, v0⟩ := v
  dsimp only
  iapply (seq (part18 m K c v143 v195 v453 v0 _ (inOrder.drop 3))) $$ [HB]
  · isplitr; · iexact HR
    iexact HB
  iintro %_ HB
  iapply (seq (part19 m K c v195 v217 _ (inOrder.drop 6))) $$ [HB]
  · isplitr; · iexact HR
    iexact HB
  iintro %v493 HB
  iapply (seq (part20 m K c v239 v493 _ (inOrder.drop 8))) $$ [HB]
  · isplitr; · iexact HR
    iexact HB
  iintro %_ HB
  iapply (seq (part21 m K c (inOrder.drop 9))) $$ [C0 C1 S0 HB]
  · isplitr; · iexact HR
    isplitl [C0 C1 S0]
    · unfold kept
      isplitl [C0]; · iexact C0
      isplitl [C1]; · iexact C1
      iexact S0
    iexact HB
  iintro %v ⟨%e, HS, Z0, HB⟩
  subst e
  dsimp only
  iapply (seq (part22 m K c v304 _ (inOrder.drop 10))) $$ [HW HB]
  · isplitr; · iexact HR
    isplitl [HW]; · iexact HW
    iexact HB
  iintro %_ ⟨HW, HB⟩
  iapply (seq (part23 m K c v316 v328 v380 _ (inOrder.drop 12))) $$ [HB]
  · isplitr; · iexact HR
    iexact HB
  iintro %_ HB
  iapply (seq (part24 m K c v380 v402 _ (inOrder.drop 15))) $$ [HB]
  · isplitr; · iexact HR
    iexact HB
  iintro %_ HB
  iapply (seq (part25 m K c v402 v424 _ (inOrder.drop 17))) $$ [HB]
  · isplitr; · iexact HR
    iexact HB
  iintro %_ HB
  iapply (seq (part26 m K c [])) $$ [D0 D1 S1 HB]
  · isplitr; · iexact HR
    isplitl [D0 D1 S1]
    · unfold kept
      isplitl [D0]; · iexact D0
      isplitl [D1]; · iexact D1
      iexact S1
    iexact HB
  iintro %v ⟨%e, HS1, Z1, HB⟩
  subst e
  dsimp only
  ihave HA := (Entails.of_eq ((each_univ (away (F := F) c) _ (by decide) (by decide)).trans (each_univ (away (F := F) c) order (by decide) (by decide)).symm)) $$ HA
  iapply (seq (part27 m K c (order.drop 1))) $$ [HW HS1 HB HA]
  · isplitr; · iexact HR
    isplitl [HW]; · iexact HW
    isplitl [HS1]; · iexact HS1
    isplitl [HB]; · iexact HB
    iexact HA
  iintro %_ ⟨HW, HS1, HB⟩
  iapply (seq (part28 m K c _ (order.drop 3))) $$ [HB]
  · isplitr; · iexact HR
    iexact HB
  iintro %_ HB
  iapply (seq (part29 m K c _ (order.drop 6))) $$ [HB]
  · isplitr; · iexact HR
    iexact HB
  iintro %_ HB
  iapply (seq (part30 m K c _ (order.drop 9))) $$ [HB]
  · isplitr; · iexact HR
    iexact HB
  iintro %_ HB
  iapply (seq (part31 m K c _ (order.drop 12))) $$ [HB]
  · isplitr; · iexact HR
    iexact HB
  iintro %_ HB
  iapply (seq (part32 m K c _ (order.drop 15))) $$ [HB]
  · isplitr; · iexact HR
    iexact HB
  iintro %_ HB
  iapply (seq (part33 m K c _ (order.drop 17))) $$ [HB]
  · isplitr; · iexact HR
    iexact HB
  iintro %_ HB
  simp only [Prog.lift, Prog.bind_op, Prog.bind_ret, Prog.pure_eq_ret]
  iapply (wp_out m K c _ [] (1, 2, 2) (qS_snd 1 2) (crS 0 1)) $$ [HB]
  · isplitr; · iexact HR
    iexact HB
  iintro HB
  unfold run
  rw [wp_ret]
  imodintro
  ihave HB := (outbox_full m c _ (by decide) (by decide)) $$ HB
  icases HB with ⟨HO, HL, HD⟩
  unfold left
  isplitl [HI]; · iexact HI
  isplitl [HW]; · iexact HW
  isplitl [HS HS1 HL]
  · iapply (tidy m c)
    isplitl [HS]; · iexact HS
    isplitl [HS1]; · iexact HS1
    iexact HL
  isplitl [Z0 Z1]
  · ihave Z := (each_append (arrZ (F := F) c) (came 0) (came 1)) $$ [Z0 Z1]
    · isplitl [Z0]; · iexact Z0
      iexact Z1
    iapply (Entails.of_eq (each_univ (arrZ (F := F) c) (came 0 ++ came 1) (by decide) (by decide))); iexact Z
  isplitl [HD]; · iexact HD
  isplitl [HZ]; · iexact HZ
  iexact HO

end Cert.KernelIdeal.Attn

end
-- ==== Proof.Oblig.lean ====
/-
# The body's obligation

What the launch gives a device makes the body's start, and what the body leaves is what the launch takes back.
-/
module

public import proofs.«01_k».proof.Proof.Body

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)
/-! ## The proof data -/

/-- What a device holds from the launch on: everybody's cells, and its own rights and positions; the credit it waits on. -/
def linear (c : Dev nD) : sProp 𝕄 :=
  iprop((bigSep Finset.univ fun j : Fin 3 => dutyTok ER (kcell (pl c j, none)) 0 j) ∗ bigSep Finset.univ (ticket (F := F) c)
    ∗ atPos ER (kcell (c, none)) 0 ∅ 0 ∗ bigSep Finset.univ fun x : Tr => atPos ER (kcell (c, some (true, x))) 0 ∅ 0)
def funds (c : Dev nD) : sProp 𝕄 :=
  iprop(cred (tallyAt (kcell (c, none)) () 3) ∗ bigSep Finset.univ fun x : Tr => cred (tallyAt (kcell (c, some (true, x))) () (amt x.2.1)))
def start (c : Dev nD) : sProp 𝕄 := iprop((∃ K, records m K ∗ linear (F := F) c) ∗ funds (F := F) c ∗ levAts L lv)

def Φ₀ (c : Dev nD) : sProp 𝕄 := iprop(start m c ∗ (∃ f, ℓc c ↦{fullShare} f) ∗ ∃ f, ℓs c ↦{fullShare} f)
def Φ₁ (c : Dev nD) : sProp 𝕄 :=
  iprop(((∃ f, ℓc c ↦{fullShare} f) ∗ ∃ f, ℓs c ↦{fullShare} f) ∗ (bigSep Finset.univ (arrZ (F := F) c) ∗ bigSep Finset.univ (depZ (F := F) c))
    ∗ semVal (kcell (c, none)) 0)

def dats (_ : Fin 1) (c : Dev nD) : Dat τ (Elt F) Unit ℕ UU ℕ cfg0 c where
  A w := m ((cfg0.win w).arr.view.loc (c : Thread nD τ))
  after w _ := match w with
    | ⟨0, _⟩ => bX m c
    | ⟨1, _⟩ => bWq m c
    | ⟨2, _⟩ => bK m c
    | ⟨3, _⟩ => bV m c
    | ⟨4, _⟩ => bWo m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_in (c : Dev nD) (w : Fin cfg0.W) (h : (cfg0.win w).fetch t0_0 = true) (d) :
    (dats m 0 c).before w t0_0 d = (dats m 0 c).fetched w t0_0 d := by
  unfold Dat.before; rw [if_pos h]

def bodyPre (c : Dev nD) : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))
def bodyPost (c : Dev nD) : sProp 𝕄 :=
  iprop(Φ₁ (F := F) c ∗ (dats m 0 c).owesAt () t0_0.succ
    ∗ stg c cc0_stg0_0 (bX m c) ∗ stg c cc0_stg1_0 (bWq m c) ∗ stg c cc0_stg2_0 (bK m c) ∗ stg c cc0_stg3_0 (bV m c) ∗ stg c cc0_stg4_0 (bWo m c)
    ∗ stg c cc0_stg5_0 (outAt m c))

theorem enter (c : Dev nD) : bodyPre m c ⊢ (iprop(∃ K, records m K ∗ given m c) : sProp 𝕄) := by
  unfold bodyPre Φ₀ start given entry linear funds ins oAcc
  rw [bigSep_fin3]
  iintro ⟨⟨⟨⟨%K, HR, ⟨T0, T1, T2⟩, HT, HB, HA⟩, ⟨C0, C1⟩, HL⟩, S0, S1⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = bX m c := h0.trans (before_in m c 0 (fetch0_0 t0_0) d0)
  have e1 : g1 = bWq m c := h1.trans (before_in m c 1 (fetch0_1 t0_0) d1)
  have e2 : g2 = bK m c := h2.trans (before_in m c 2 (fetch0_2 t0_0) d2)
  have e3 : g3 = bV m c := h3.trans (before_in m c 3 (fetch0_3 t0_0) d3)
  have e4 : g4 = bWo m c := h4.trans (before_in m c 4 (fetch0_4 t0_0) d4)
  subst e0 e1 e2 e3 e4
  ihave HS := (carve c) $$ [S0 S1]
  · isplitl [S0]; · iexact S0
    iexact S1
  icases HS with ⟨HH, L0, L1, L2⟩
  unfold Dat.owesAt Pipeline.owesWithin
  icases Ho with ⟨%W, %hW, HO⟩
  rw [show (dats m 0 c).owed t0_0.castSucc = O₀ c from rfl]
  iexists K
  isplitl [HR]; · iexact HR
  isplitl [H0 H1 H2 H3 H4]
  · isplitl [H0]; · iexact H0
    isplitl [H1]; · iexact H1
    isplitl [H2]; · iexact H2
    isplitl [H3]; · iexact H3
    iexact H4
  isplitl [T0 T1 T2 L0 L1 L2 HL C0 HB HO]
  · isplitl [T0 L0]
    · isplitl [T0]; · iexact T0
      iexact L0
    isplitl [T1 L1]
    · isplitl [T1]; · iexact T1
      iexact L1
    isplitl [T2 L2]
    · isplitl [T2]; · iexact T2
      iexact L2
    isplitl [HL]; · iexact HL
    isplitl [C0]; · iexact C0
    isplitl [HB]; · iexact HB
    unfold owing
    iexists W; iexact HO
  isplitl [HH]; · iexact HH
  isplitl [H5]
  · iexists g5
    isplitr
    · ipureintro; intro i h; exact absurd h (Nat.not_lt_zero _)
    iexact H5
  isplitl [HT]; · iexact HT
  have e : (bigSep Finset.univ (due (F := F) c) : sProp 𝕄) = iprop((bigSep Finset.univ fun x : Tr => cred (tallyAt (kcell (c, some (true, x))) () (amt x.2.1)))
      ∗ bigSep Finset.univ fun x : Tr => atPos ER (kcell (c, some (true, x))) 0 ∅ 0) := bigSep_sep' _ _ _
  rw [e]
  isplitl [C1]; · iexact C1
  iexact HA

theorem leave (c : Dev nD) : (left m c : sProp 𝕄) ⊢ bodyPost m c := by
  unfold left bodyPost ins oAcc Φ₁ Dat.owesAt Pipeline.owesWithin owing
  rw [show (dats m 0 c).owed t0_0.succ = 0 from rfl]
  iintro ⟨⟨H0, H1, H2, H3, H4⟩, ⟨%g, %hg, H5⟩, HS, HA, HD, HZ, ⟨%W, HO⟩⟩
  have e5 : g = outAt m c := funext fun i => hg i (i 0).isLt
  subst e5
  ihave HS := (uncarve m c) $$ HS
  isplitl [HS HA HD HZ]
  · isplitl [HS]; · iexact HS
    isplitl [HA HD]
    · isplitl [HA]; · iexact HA
      iexact HD
    iexact HZ
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

/-- The body obligation of device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ run c (onBufs (cc0_body (F := F))) (fun _ => bodyPost m c)
  iintro H
  ihave H := (enter m c) $$ H
  icases H with ⟨%K, H⟩
  have hb : iprop(records m K ∗ given m c) ⊢ run c (onBufs (cc0_body (F := F))) (fun _ => bodyPost m c) :=
    (body m K c).trans (wp_mono _ _ _ fun _ => leave m c)
  iapply hb
  iexact H

end Cert.KernelIdeal.Attn

end
-- ==== Proof.Launch.lean ====
/-
# The launch

Every device's semaphores at zero become the exchange's cells; the rights to raise a peer's semaphore are dealt to the
device that raises it; the credit of what a device will owe goes to the device that waits for it. Then the run.
-/
module

public import proofs.«01_k».proof.Proof.Oblig
public import Idealize.ShloMosaic.Lib.Pipeline.CollectiveSegs

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)
/-! ## Cells and rights -/

def osem (y : Bool × Tr) : SemLoc sig := csem (some y)

theorem ownSemFacts : Pipeline.OwnSemFacts cfg0.spec osem := by decide +kernel

theorem kcell_injective : Function.Injective (kcell : Dev nD × Ck → GSem nD τ sig) := by
  rintro ⟨c, k⟩ ⟨c', k'⟩ h
  have h1 : c = c' := congrArg (fun g : GSem nD τ sig => g.1.1) h
  have h2 : k = k' := csem_inj (congrArg Prod.snd h)
  rw [h1, h2]
def kcells : Finset (GSem nD τ sig) := Finset.univ.map ⟨kcell, kcell_injective⟩

/-- The rights of a cell: a barrier's three, one per peer; a transfer's one. -/
abbrev Rt := Fin 3 ⊕ (Bool × Tr)
def rtOf (x : Dev nD × Rt) : GSem nD τ sig × ℕ × Fin 3 := match x.2 with
  | .inl j => (kcell (x.1, none), 0, j)
  | .inr y => (kcell (x.1, some y), 0, 0)
theorem rtOf_injective : Function.Injective rtOf := by
  rintro ⟨c, j | y⟩ ⟨c', j' | y'⟩ h
  · have h1 := congrArg Prod.fst (kcell_injective (congrArg Prod.fst h))
    have h2 : j = j' := congrArg (fun x : GSem nD τ sig × ℕ × Fin 3 => x.2.2) h
    dsimp only at h1; rw [h1, h2]
  · exact absurd (congrArg Prod.snd (kcell_injective (congrArg Prod.fst h))) (fun h => by cases h)
  · exact absurd (congrArg Prod.snd (kcell_injective (congrArg Prod.fst h))) (fun h => by cases h)
  · have h1 := kcell_injective (congrArg Prod.fst h)
    have h2 := congrArg Prod.fst h1
    have h3 := Option.some.inj (congrArg Prod.snd h1)
    dsimp only at h2 h3; rw [h2, h3]
def kRts : Finset (GSem nD τ sig × ℕ × Fin 3) := Finset.univ.map ⟨rtOf, rtOf_injective⟩

def u₀ : UU := (initOf (Pipeline.cells cfgs cellOf_inj) (Pipeline.launchToks cfgs cellOf_inj), initOf kcells kRts)

theorem swap (P Q : sProp 𝕄) : iprop(P ∗ Q) = iprop(Q ∗ P) := Entails.antisymm sep_comm sep_comm
theorem bigSep_dirs (Φ : Bool × Tr → sProp 𝕄) : bigSep Finset.univ Φ
    = iprop((bigSep Finset.univ fun x : Tr => Φ (false, x)) ∗ bigSep Finset.univ fun x : Tr => Φ (true, x)) := by
  rw [bigSep_univ_prod, bigSep_univ_eq_bigSepL [false, true] (by decide) (by decide)]; rfl
theorem bigSep_kinds (Φ : Ck → sProp 𝕄) : bigSep Finset.univ Φ = iprop(Φ none ∗ bigSep Finset.univ fun y : Bool × Tr => Φ (some y)) := by
  rw [bigSep_univ_equiv (Equiv.optionEquivSumPUnit.{0} (Bool × Tr)).symm Φ, bigSep_univ_sum,
    show (Finset.univ : Finset PUnit.{1}) = {PUnit.unit} from rfl, bigSep_singleton]
  exact swap _ _

/-- The rights to device `c`'s own cells. -/
def toks (c : Dev nD) : sProp 𝕄 :=
  iprop((bigSep Finset.univ fun j : Fin 3 => dutyTok ER (kcell (c, none)) 0 j)
    ∗ bigSep Finset.univ fun y : Bool × Tr => dutyTok ER (kcell (c, some y)) 0 0)

/-- What the launch deals device `c`. -/
def G (c : Dev nD) : sProp 𝕄 :=
  iprop((bigSep Finset.univ fun k : Ck => roundState ER (ring m) (kcell (c, k)) 0)
    ∗ (bigSep Finset.univ fun k : Ck => iprop(atPos ER (kcell (c, k)) 0 ∅ 0 ∗ reached ER (kcell (c, k)) 0)) ∗ toks (F := F) c)
def G' (c : Dev nD) : sProp 𝕄 := iprop(∃ K, records m K ∗ linear (F := F) c)

theorem fund_cells : BI.own (ER (F := F) (initOf kcells kRts)) ⊢ (|==> bigSep Finset.univ (G m) : sProp 𝕄) := by
  have hX (Φ : GSem nD τ sig → sProp 𝕄) : bigSep kcells Φ = bigSep Finset.univ fun c : Dev nD => bigSep Finset.univ fun k : Ck => Φ (kcell (c, k)) := by
    unfold kcells; rw [bigSep_map, bigSep_univ_prod]; rfl
  have hT : bigSep kRts (fun x => (dutyTok ER x.1 x.2.1 x.2.2 : sProp 𝕄)) = bigSep Finset.univ (toks (F := F)) := by
    unfold kRts; rw [bigSep_map, bigSep_univ_prod]
    exact bigSep_congr fun c _ => by unfold toks; rw [bigSep_univ_sum]; rfl
  iintro H
  imod (Rounds.fund ER (ring m) kcells kRts) $$ H with ⟨Hs, Hr, Ha, Ht⟩
  imodintro
  ihave Hs := (Entails.of_eq (hX fun g => roundState ER (ring m) g 0)) $$ Hs
  ihave Ha := (Entails.of_eq (hX fun g => atPos ER g 0 ∅ 0)) $$ Ha
  ihave Hr := (Entails.of_eq (hX fun g => reached ER g 0)) $$ Hr
  ihave Ht := (Entails.of_eq hT) $$ Ht
  have hG : (bigSep Finset.univ (G m) : sProp 𝕄)
      = iprop((bigSep Finset.univ fun c : Dev nD => bigSep Finset.univ fun k : Ck => roundState ER (ring m) (kcell (c, k)) 0)
        ∗ ((bigSep Finset.univ fun c : Dev nD => bigSep Finset.univ fun k : Ck => atPos ER (kcell (c, k)) 0 ∅ 0)
          ∗ bigSep Finset.univ fun c : Dev nD => bigSep Finset.univ fun k : Ck => reached ER (kcell (c, k)) 0)
        ∗ bigSep Finset.univ (toks (F := F))) := by
    rw [← bigSep_sep', ← bigSep_sep', ← bigSep_sep']
    exact bigSep_congr fun c _ => by unfold G; rw [bigSep_sep']
  rw [hG]
  isplitl [Hs]; · iexact Hs
  isplitl [Ha Hr]
  · isplitl [Ha]; · iexact Ha
    iexact Hr
  iexact Ht

/-! ## The semaphores at zero -/

theorem unscopedSems0_eq (c : Dev nD) : (unscopedSems0 c : sProp 𝕄) = semVal (kcell (c, none)) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = iprop(bigSep Finset.univ (depZ (F := F) c) ∗ bigSep Finset.univ (arrZ (F := F) c)) := by
  unfold Pipeline.ownSems0; rw [bigSep_dirs]; rfl

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ring m) κ (kcell (c, k))))
          ∗ (bigSep Finset.univ fun k => iprop(atPos ER (kcell (c, k)) 0 ∅ 0 ∗ reached ER (kcell (c, k)) 0)) ∗ toks (F := F) c) := by
  have hz : iprop(Pipeline.ownSems0 (Ix := Unit) (Name := ℕ) (U := UU) (Lvl := ℕ) (Val := Elt F) (τ := τ) osem c ∗ unscopedSems0 c)
      = (bigSep Finset.univ fun k : Ck => semVal (kcell (c, k)) 0 : sProp 𝕄) := by
    rw [unscopedSems0_eq, bigSep_kinds]; exact swap _ _
  have hi : iprop((bigSep Finset.univ fun k : Ck => semVal (kcell (c, k)) 0) ∗ bigSep Finset.univ fun k : Ck => roundState ER (ring m) (kcell (c, k)) 0)
      ⊢ (|={Set.univ}=> bigSep Finset.univ fun k => iprop(∃ κ : ℕ, cellInv ER (ring m) κ (kcell (c, k))) : sProp 𝕄) := by
    rw [← bigSep_sep']
    exact (bigSep_mono fun k _ => (Rounds.body_intro ER (ring m) (kcell (c, k))).trans inv_alloc).trans (bigSep_fupd _ _)
  unfold G
  iintro ⟨Ho, Hu, Hs, Ha, Ht⟩
  ihave Hv := (Entails.of_eq hz) $$ [Ho Hu]
  · isplitl [Ho]; · iexact Ho
    iexact Hu
  imod hi $$ [Hv Hs] with HI
  · isplitl [Hv]; · iexact Hv
    iexact Hs
  imodintro
  isplitl [HI]; · iexact HI
  isplitl [Ha]; · iexact Ha
  iexact Ht

/-! ## Rights to the peers' cells -/

/-- The device `j + 1` places on, seen from the other end. -/
def flipB : Dev nD × Fin 3 ≃ Dev nD × Fin 3 where
  toFun x := (pl x.1 x.2, x.2)
  invFun x := (pl x.1 x.2.rev, x.2)
  left_inv x := Prod.ext (pl_rev x.1 x.2) rfl
  right_inv x := Prod.ext (pl_rev' x.1 x.2) rfl
/-- A transfer, seen from the other end. -/
def flipT : Dev nD × Tr ≃ Dev nD × Tr where
  toFun x := (pl x.1 x.2.2.2, (x.2.1, x.2.2.1, x.2.2.2.rev))
  invFun x := (pl x.1 x.2.2.2, (x.2.1, x.2.2.1, x.2.2.2.rev))
  left_inv x := by obtain ⟨c, b, k, j⟩ := x; exact Prod.ext (pl_rev c j) (congrArg (fun i => (b, k, i)) (Fin.rev_rev j))
  right_inv x := by obtain ⟨c, b, k, j⟩ := x; exact Prod.ext (pl_rev c j) (congrArg (fun i => (b, k, i)) (Fin.rev_rev j))

theorem turnB (Φ : Dev nD → Fin 3 → sProp 𝕄) : (bigSep Finset.univ fun c => bigSep Finset.univ fun j => Φ c j)
    = bigSep Finset.univ fun c => bigSep Finset.univ fun j => Φ (pl c j) j := by
  rw [← bigSep_univ_prod (fun x : Dev nD × Fin 3 => Φ x.1 x.2), bigSep_univ_equiv flipB, bigSep_univ_prod]; rfl
theorem turnT (Φ : Dev nD → Tr → sProp 𝕄) : (bigSep Finset.univ fun c => bigSep Finset.univ fun x => Φ c x)
    = bigSep Finset.univ fun c => bigSep Finset.univ fun x : Tr => Φ (pl c x.2.2) (x.1, x.2.1, x.2.2.rev) := by
  rw [← bigSep_univ_prod (fun x : Dev nD × Tr => Φ x.1 x.2), bigSep_univ_equiv flipT, bigSep_univ_prod]; rfl

theorem deal : (iprop((bigSep Finset.univ fun c : Dev nD => bigSep Finset.univ fun k : Ck => atPos ER (kcell (c, k)) 0 ∅ 0) ∗ bigSep Finset.univ (toks (F := F))) : sProp 𝕄)
    = bigSep Finset.univ (linear (F := F)) := by
  have ht : (bigSep Finset.univ (toks (F := F)) : sProp 𝕄)
      = iprop((bigSep Finset.univ fun c => bigSep Finset.univ fun j : Fin 3 => dutyTok ER (kcell (pl c j, none)) 0 j)
        ∗ (bigSep Finset.univ fun c => bigSep Finset.univ fun x : Tr => dutyTok ER (kcell (c, some (false, x))) 0 0)
        ∗ bigSep Finset.univ fun c => bigSep Finset.univ fun x : Tr => dutyTok ER (kcell (pl c x.2.2, some (true, (x.1, x.2.1, x.2.2.rev)))) 0 0) := by
    rw [← turnB (fun c j => (dutyTok ER (kcell (c, none)) 0 j : sProp 𝕄)), ← turnT (fun c x => (dutyTok ER (kcell (c, some (true, x))) 0 0 : sProp 𝕄)),
      ← bigSep_sep', ← bigSep_sep']
    exact bigSep_congr fun c _ => by unfold toks; rw [bigSep_dirs]
  have ha : (bigSep Finset.univ fun c : Dev nD => bigSep Finset.univ fun k : Ck => (atPos ER (kcell (c, k)) 0 ∅ 0 : sProp 𝕄))
      = iprop((bigSep Finset.univ fun c : Dev nD => atPos ER (kcell (c, none)) 0 ∅ 0)
        ∗ (bigSep Finset.univ fun c => bigSep Finset.univ fun x : Tr => atPos ER (kcell (c, some (false, x))) 0 ∅ 0)
        ∗ bigSep Finset.univ fun c => bigSep Finset.univ fun x : Tr => atPos ER (kcell (c, some (true, x))) 0 ∅ 0) := by
    rw [← bigSep_sep', ← bigSep_sep']
    exact bigSep_congr fun c _ => by rw [bigSep_kinds, bigSep_dirs]
  have hl : (bigSep Finset.univ (linear (F := F)) : sProp 𝕄)
      = iprop((bigSep Finset.univ fun c => bigSep Finset.univ fun j : Fin 3 => dutyTok ER (kcell (pl c j, none)) 0 j)
        ∗ ((bigSep Finset.univ fun c => bigSep Finset.univ fun x : Tr => dutyTok ER (kcell (c, some (false, x))) 0 0)
          ∗ (bigSep Finset.univ fun c => bigSep Finset.univ fun x : Tr => dutyTok ER (kcell (pl c x.2.2, some (true, (x.1, x.2.1, x.2.2.rev)))) 0 0)
          ∗ bigSep Finset.univ fun c => bigSep Finset.univ fun x : Tr => atPos ER (kcell (c, some (false, x))) 0 ∅ 0)
        ∗ (bigSep Finset.univ fun c : Dev nD => atPos ER (kcell (c, none)) 0 ∅ 0)
        ∗ bigSep Finset.univ fun c => bigSep Finset.univ fun x : Tr => atPos ER (kcell (c, some (true, x))) 0 ∅ 0) := by
    simp only [← bigSep_sep']
    exact bigSep_congr fun c _ => by unfold linear ticket; rfl
  rw [ht, ha, hl]
  generalize (bigSep Finset.univ fun c : Dev nD => (atPos ER (kcell (c, none)) 0 ∅ 0 : sProp 𝕄)) = A
  generalize (bigSep Finset.univ fun c : Dev nD => bigSep Finset.univ fun x : Tr => (atPos ER (kcell (c, some (false, x))) 0 ∅ 0 : sProp 𝕄)) = B
  generalize (bigSep Finset.univ fun c : Dev nD => bigSep Finset.univ fun x : Tr => (atPos ER (kcell (c, some (true, x))) 0 ∅ 0 : sProp 𝕄)) = C
  generalize (bigSep Finset.univ fun c : Dev nD => bigSep Finset.univ fun j : Fin 3 => (dutyTok ER (kcell (pl c j, none)) 0 j : sProp 𝕄)) = D
  generalize (bigSep Finset.univ fun c : Dev nD => bigSep Finset.univ fun x : Tr => (dutyTok ER (kcell (c, some (false, x))) 0 0 : sProp 𝕄)) = E
  generalize (bigSep Finset.univ fun c : Dev nD => bigSep Finset.univ fun x : Tr => (dutyTok ER (kcell (pl c x.2.2, some (true, (x.1, x.2.1, x.2.2.rev)))) 0 0 : sProp 𝕄)) = X
  refine Entails.antisymm (show iprop((A ∗ B ∗ C) ∗ D ∗ E ∗ X) ⊢ iprop(D ∗ (E ∗ X ∗ B) ∗ A ∗ C) from ?_) (show iprop(D ∗ (E ∗ X ∗ B) ∗ A ∗ C) ⊢ iprop((A ∗ B ∗ C) ∗ D ∗ E ∗ X) from ?_)
  · iintro ⟨⟨HA, HB, HC⟩, HD, HE, HX⟩
    isplitl [HD]; · iexact HD
    isplitl [HE HX HB]
    · isplitl [HE]; · iexact HE
      isplitl [HX]; · iexact HX
      iexact HB
    isplitl [HA]; · iexact HA
    iexact HC
  · iintro ⟨HD, ⟨HE, HX, HB⟩, HA, HC⟩
    isplitl [HA HB HC]
    · isplitl [HA]; · iexact HA
      isplitl [HB]; · iexact HB
      iexact HC
    isplitl [HD]; · iexact HD
    isplitl [HE]; · iexact HE
    iexact HX

theorem share_out {R : sProp 𝕄} [BI.Persistent R] (Φ : Dev nD → sProp 𝕄) {Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (ring m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Ck => iprop(∃ κ : ℕ, cellInv ER (ring m) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Ha, #HR⟩, Ht⟩
  ihave HK := (BI.bigSep_exists_pi Finset.univ (fun (ck : Dev nD × Ck) (κ : ℕ) => (cellInv ER (ring m) κ (kcell ck) : sProp 𝕄))) $$ HI
  icases HK with ⟨%K, #HI⟩
  have hs : ∀ c, iprop(records m K ∗ linear (F := F) c) ⊢ G' m c := fun c => by
    unfold G'; iintro H; iexists K; iexact H
  iapply (share_out (linear (F := F)) hs)
  isplitr
  · unfold records; isplitl; · iexact HI
    iexact HR
  rw [← deal]
  isplitl [Ha]; · iexact Ha
  iexact Ht

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## Credit -/

/-- What device `c` waits for. -/
def dueT (c : Dev nD) : CellTallies nD τ sig Unit := tallyAt (kcell (c, none)) () 3 + ∑ x : Tr, tallyAt (kcell (c, some (true, x))) () (amt x.2.1)

theorem owe_eq (c : Dev nD) (l : List Tr) : owe c l = (l.map fun x => tallyAt (kcell (pl c x.2.2, some (true, (x.1, x.2.1, x.2.2.rev)))) () (amt x.2.1)).sum := by
  induction l with
  | nil => rfl
  | cons x l ih => rw [owe, List.map_cons, List.sum_cons, ih, add_comm]
theorem owe_all (c : Dev nD) : owe c order = ∑ x : Tr, tallyAt (kcell (pl c x.2.2, some (true, (x.1, x.2.1, x.2.2.rev)))) () (amt x.2.1) := by
  rw [owe_eq, ← List.sum_toFinset _ (by decide), show order.toFinset = Finset.univ by decide]

theorem owed_due : ∑ c, O₀ c = ∑ c, dueT c := by
  have hB : ∑ c : Dev nD, ∑ j : Fin 3, (tallyAt (kcell (pl c j, none)) () 1 : CellTallies nD τ sig Unit) = ∑ c : Dev nD, tallyAt (kcell (c, none)) () 3 := by
    rw [← Fintype.sum_prod_type' (f := fun (c : Dev nD) (j : Fin 3) => (tallyAt (kcell (pl c j, none)) () 1 : CellTallies nD τ sig Unit)),
      Fintype.sum_equiv flipB (fun x : Dev nD × Fin 3 => (tallyAt (kcell (pl x.1 x.2, none)) () 1 : CellTallies nD τ sig Unit)) (fun x => (tallyAt (kcell (x.1, none)) () 1 : CellTallies nD τ sig Unit)) (fun _ => rfl), Fintype.sum_prod_type]
    refine Finset.sum_congr rfl fun c _ => ?_
    rw [Fin.sum_univ_three]
    exact (congrArg (fun z => z + tallyAt (kcell (c, none)) () 1) (tallyAt_add (kcell (c, none)) () 1 1)).trans (tallyAt_add _ () 2 1)
  have hT : ∑ c : Dev nD, ∑ x : Tr, (tallyAt (kcell (pl c x.2.2, some (true, (x.1, x.2.1, x.2.2.rev)))) () (amt x.2.1) : CellTallies nD τ sig Unit)
      = ∑ c : Dev nD, ∑ x : Tr, tallyAt (kcell (c, some (true, x))) () (amt x.2.1) := by
    rw [← Fintype.sum_prod_type' (f := fun (c : Dev nD) (x : Tr) => (tallyAt (kcell (pl c x.2.2, some (true, (x.1, x.2.1, x.2.2.rev)))) () (amt x.2.1) : CellTallies nD τ sig Unit)),
      Fintype.sum_equiv flipT (fun x : Dev nD × Tr => (tallyAt (kcell (pl x.1 x.2.2.2, some (true, (x.2.1, x.2.2.1, x.2.2.2.rev)))) () (amt x.2.2.1) : CellTallies nD τ sig Unit)) (fun x => (tallyAt (kcell (x.1, some (true, x.2))) () (amt x.2.2.1) : CellTallies nD τ sig Unit)) (fun _ => rfl), Fintype.sum_prod_type]
  unfold dueT
  rw [Finset.sum_add_distrib, ← hB, ← hT, ← Finset.sum_add_distrib]
  refine Finset.sum_congr rfl fun c _ => ?_
  unfold O₀ oweBar
  rw [owe_all, Fin.sum_univ_three, add_assoc, add_assoc, add_comm (∑ x : Tr, _)]
  refine congrArg (· + _) ?_
  rw [add_comm (tallyAt (kcell (pl c 1, none)) () 1), ← add_assoc, add_comm (tallyAt (kcell (pl c 0, none)) () 1 + _), ← add_assoc, add_comm (tallyAt (kcell (pl c 2, none)) () 1)]

theorem dueT_tc (c : Dev nD) (g : GSem nD τ sig) (h : dueT c g ≠ 0) : g.1 = (c : Thread nD τ) := by
  by_contra hg
  have hz : ∀ (k : Ck) (n : ℕ), (tallyAt (kcell (c, k)) () n : CellTallies nD τ sig Unit) g = 0 := fun k n =>
    tallyAt_ne_cell (g := kcell (c, k)) (g' := g) (fun e => hg (by rw [e])) () n
  refine h ?_
  unfold dueT
  rw [Pi.add_apply, hz, Finset.sum_apply, Finset.sum_eq_zero fun x _ => hz _ _, add_zero]

theorem creds (c : Dev nD) : (Pipeline.launchCred O₀ c : sProp 𝕄) ⊢ funds (F := F) c := by
  rw [Pipeline.launchCred_of_sum O₀ dueT owed_due dueT_tc c]
  unfold dueT funds
  refine (cred_add _ _).mp.trans ?_
  rw [Pipeline.cred_finsetSum]

/-! ## The run -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, HL, HC, -, HG⟩
  ihave HC := (creds (F := F) c) $$ HC
  imodintro
  unfold start G'
  isplitl
  · isplitl [HG]; · iexact HG
    isplitl [HC]; · iexact HC
    iexact HL
  · iempintro

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨HS, -, HC, HD⟩
  isplitl [HS]; · iexact HS
  isplitl [HC]; · iexact HC
  iexact HD

theorem phi_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁
  iintro ⟨⟨HC, HD⟩, ⟨HA, HE⟩, HZ⟩
  isplitl [HZ]; · iexact HZ
  isplitl [HA HE]
  · isplitl [HE]; · iexact HE
    iexact HA
  isplitl [HC]; · iexact HC
  iexact HD

/-- A staging semaphore is no cell of the exchange. -/
theorem lv_stage (c : Dev nD) (w : Fin cfg0.W) (s : Fin (cfg0.win w).nbuf) (u : Unit) : lv ((c : Thread nD τ), .dma ((cfg0.win w).sem s)) u = 0 := by
  have h : dec (.dma ((cfg0.win w).sem s)) = none := by
    unfold dec
    refine dif_neg ?_
    rintro ⟨_ | y, hk⟩
    · cases hk
    · revert w s y; decide +kernel
  unfold lv; rw [h]

theorem waits (c : Dev nD) : (levAts L lv : sProp 𝕄) ⊢ Pipeline.cellsWaits cfgs (dats m) () 0 c :=
  Pipeline.cellsWaits_intro cfgs (dats m) () 0 c fun w s t =>
    mayWait_low c _ (lv_stage c w s) _ (by
      rcases t with ⟨_ | _, ht⟩
      · exact Or.inl rfl
      · exact Or.inr rfl)

def finalA (c : Dev nD) (w : Fin cfg0.W) : Buf (Elt F) ((cfg0.win w).arr.view.loc (c : Thread nD τ)) := (dats m 0 c).arrAt w cfg0.N

/-- Every array as the run leaves it. -/
def Final (r : PUnit × MemSt nD τ sig (Elt F)) : Prop :=
  ∀ c : Dev nD, ∀ w : Fin cfg0.W, r.2.mem ((cfg0.win w).arr.view.loc (c : Thread nD τ)) = finalA m c w

/-- From any memory with every semaphore at zero, on four devices and for any float values: every fair execution ends,
    and then each device's result has the value computed, its arguments are as they were and every semaphore is at zero. -/
theorem run_main : θ_run defs (onTc (τ := τ) (main (F := F))) (s₀ m ρ) (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_in m) (hout := phi_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Attn

end
-- ==== Proof.Frames.lean ====
/-
# What a run leaves

The arguments as they were, the result at the value computed, every semaphore at zero; hence the frames.
-/
module

public import proofs.«01_k».proof.Proof.Launch
public import proofs.«01_k».proof.Proof.Gen.Kernel
public import proofs.«01_k».proof.Proof.Gen.ReferenceIdeal
public import proofs.«01_k».proof.Proof.Gen.ReferenceIdeal.Run
public import proofs.«01_k».proof.Defs

@[expose] public section

set_option maxRecDepth 16384

noncomputable section

namespace Cert.KernelIdeal.Attn

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The arguments are as they were. -/
theorem args_kept (r : PUnit × MemSt nD τ sig (Elt F)) (h : Final m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c 0).trans ((dats m 0 c).arrAt_in 0 rfl _), (h c 1).trans ((dats m 0 c).arrAt_in 1 rfl _), (h c 2).trans ((dats m 0 c).arrAt_in 2 rfl _),
    (h c 3).trans ((dats m 0 c).arrAt_in 3 rfl _), (h c 4).trans ((dats m 0 c).arrAt_in 4 rfl _)⟩

/-- Every run leaves the arguments as they were and every semaphore at zero, at any reading of the floats. -/
theorem frame_any (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run defs _ _).mono (fun r h => ⟨fun c => args_kept m r h.1 c, h.2⟩) (run_main m ρ)

/-- The two printed kernels have one body. -/
theorem body_eq : Cert.Kernel.defs₀ (F := Bits) = Cert.KernelIdeal.defs₀ (F := Bits) := by
  unfold Cert.Kernel.defs₀ Cert.KernelIdeal.defs₀
  refine congrArg Defs.onTc ?_
  funext f a
  match f, a with
  | 0, (t, s) => rfl

/-- Hence one table of bodies. -/
theorem table_eq : Cert.Kernel.defs (F := Bits) = Cert.KernelIdeal.defs (F := Bits) :=
  congrArg (Pipeline.defs pcfgs) body_eq

/-- The kernel's frame, at the words of its floats. -/
theorem frame_kernel : Cert.quiescent_Kernel (hKernel := Cert.Kernel.Gen.facts) := fun m ρ _ => by
  rw [table_eq]
  exact frame_any (F := Bits) m ρ

/-- The idealized kernel's frame. -/
theorem frame_ideal : Cert.quiescent_KernelIdeal (hKernelIdeal := Cert.KernelIdeal.Gen.facts) := fun m ρ _ =>
  frame_any (F := Ideal) m ρ

/-- The reference's frame: it runs on the host alone and declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.KernelIdeal.Attn

end
-- ==== Proof.KVal.lean ====
/-
# The kernel's values over the reals, element by element

Each payload of a head, read at an index: the scaled queries, the mask, the masked exponentials of the scores, the partial
contexts and denominators, and the result as a sum over the four slots.
-/
module

public import proofs.«01_k».proof.Proof.Vals
public import proofs.«01_k».proof.Proof.Local
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe

variable (m : (ℓ : Loc nD τ sig) → Buf (Elt Ideal) ℓ)

/-! ## The device's arguments -/

abbrev aX (c : Dev nD) : FVec Ideal S2x256x512 .bf16 := m ((c.tc : Thread nD τ).loc main_arg0)
abbrev aWq (c : Dev nD) : FVec Ideal S512x256 .bf16 := m ((c.tc : Thread nD τ).loc main_arg1)
abbrev aK (c : Dev nD) : FVec Ideal S2x256x4x64 .bf16 := m ((c.tc : Thread nD τ).loc main_arg2)
abbrev aV (c : Dev nD) : FVec Ideal S2x256x4x64 .bf16 := m ((c.tc : Thread nD τ).loc main_arg3)
abbrev aWo (c : Dev nD) : FVec Ideal S256x512 .bf16 := m ((c.tc : Thread nD τ).loc main_arg4)

/-- A staged block is the whole argument. -/
theorem bX_eq (c : Dev nD) : (bX m c : S2x256x512.Idx → EReal) = aX m c :=
  Memref.read_access_unit_zero (Elt Ideal) main_arg0 (funext fun a => Nat.zero_mul _) _ _
theorem bWq_eq (c : Dev nD) : (bWq m c : S512x256.Idx → EReal) = aWq m c :=
  Memref.read_access_unit_zero (Elt Ideal) main_arg1 (funext fun a => Nat.zero_mul _) _ _
theorem bK_eq (c : Dev nD) : (bK m c : S2x256x4x64.Idx → EReal) = aK m c :=
  Memref.read_access_unit_zero (Elt Ideal) main_arg2 (funext fun a => Nat.zero_mul _) _ _
theorem bV_eq (c : Dev nD) : (bV m c : S2x256x4x64.Idx → EReal) = aV m c :=
  Memref.read_access_unit_zero (Elt Ideal) main_arg3 (funext fun a => Nat.zero_mul _) _ _
theorem bWo_eq (c : Dev nD) : (bWo m c : S256x512.Idx → EReal) = aWo m c :=
  Memref.read_access_unit_zero (Elt Ideal) main_arg4 (funext fun a => Nat.zero_mul _) _ _

/-! ## The loads -/

theorem ldX_at (c : Dev nD) (b : Fin 2) (z : Fin 1) (i : Fin 256) (d : Fin 512) :
    ldX m c b (ix3 z i d) = aX m c (ix3 b i d) := by
  refine Eq.trans ?_ (congrFun (bX_eq m c) (ix3 b i d))
  refine congrArg (bX m c) (funext fun a => Fin.ext ((emb_unit (inb_x b) _ a).trans ?_))
  fin_cases a
  · show b.val + z.val = b.val; omega
  · show 0 + i.val = i.val; omega
  · show 0 + d.val = d.val; omega

theorem ldK_at (c : Dev nD) (b : Fin 2) (h : Fin 4) (z w : Fin 1) (j : Fin 256) (e : Fin 64) :
    ldK m c b h (ix4 z j w e) = aK m c (ix4 b j h e) := by
  refine Eq.trans ?_ (congrFun (bK_eq m c) (ix4 b j h e))
  refine congrArg (bK m c) (funext fun a => Fin.ext ((emb_unit (inb_kv b h) _ a).trans ?_))
  fin_cases a
  · show b.val + z.val = b.val; omega
  · show 0 + j.val = j.val; omega
  · show h.val + w.val = h.val; omega
  · show 0 + e.val = e.val; omega

theorem ldV_at (c : Dev nD) (b : Fin 2) (h : Fin 4) (z w : Fin 1) (j : Fin 256) (e : Fin 64) :
    ldV m c b h (ix4 z j w e) = aV m c (ix4 b j h e) := by
  refine Eq.trans ?_ (congrFun (bV_eq m c) (ix4 b j h e))
  refine congrArg (bV m c) (funext fun a => Fin.ext ((emb_unit (inb_kv b h) _ a).trans ?_))
  fin_cases a
  · show b.val + z.val = b.val; omega
  · show 0 + j.val = j.val; omega
  · show h.val + w.val = h.val; omega
  · show 0 + e.val = e.val; omega

theorem ldWq_eq (c : Dev nD) : (ldWq m c : S512x256.Idx → EReal) = aWq m c :=
  (Memref.readAt_unit_zero (Elt Ideal) cc0_stg1_0 (funext fun a => by fin_cases a <;> rfl) _ _).trans (bWq_eq m c)
theorem ldWo_eq (c : Dev nD) : (ldWo m c : S256x512.Idx → EReal) = aWo m c :=
  (Memref.readAt_unit_zero (Elt Ideal) cc0_stg4_0 (funext fun a => by fin_cases a <;> rfl) _ _).trans (bWo_eq m c)

/-! ## The mask -/

/-- The signed word division of the body, with its correction toward minus infinity. -/
def fdiv64 (x : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt 64#32 0#32)) (Scalar.extui (Scalar.cmpi .slt 64#32 0#32))))
      (IntOp.cmpi .ne (IntOp.remsi ArithUnit.vector x 64#32) 0#32))
    (IntOp.subi (IntOp.divsi ArithUnit.vector x 64#32) 1#32) (IntOp.divsi ArithUnit.vector x 64#32)

theorem fdiv64_val (j : Fin 256) : fdiv64 (BitVec.ofNat 32 j.val) = BitVec.ofNat 32 (j.val / 64) := by
  revert j; decide +kernel

theorem msk_at (j i : Fin 256) : msk (F := Ideal) (ix2 j i) = if j.val / 64 = i.val / 64 then (1 : EReal) else 0 := by
  unfold msk
  pointwise [k0_pay5, k0_pay3, k0_pay4]
  show FloatOps.sitofp (F := Ideal) .f32 (BitVec.setWidth 32 (IntOp.cmpi .eq (fdiv64 (BitVec.ofNat 32 j.val)) (fdiv64 (BitVec.ofNat 32 i.val)))) = _
  rw [fdiv64_val, fdiv64_val]
  have hj := j.isLt
  have hi := i.isLt
  by_cases h : j.val / 64 = i.val / 64
  · rw [if_pos h, h]
    have e : BitVec.setWidth 32 (IntOp.cmpi .eq (BitVec.ofNat 32 (i.val / 64)) (BitVec.ofNat 32 (i.val / 64))) = 1#32 := by
      simp [IntOp.cmpi]
    rw [e]
    show (((1#32 : BitVec 32).toInt : ℝ) : EReal) = 1
    simp
  · rw [if_neg h]
    have hne : BitVec.ofNat 32 (j.val / 64) ≠ BitVec.ofNat 32 (i.val / 64) := by
      intro hh
      have := congrArg BitVec.toNat hh
      simp only [BitVec.toNat_ofNat] at this
      omega
    have e : BitVec.setWidth 32 (IntOp.cmpi .eq (BitVec.ofNat 32 (j.val / 64)) (BitVec.ofNat 32 (i.val / 64))) = 0#32 := by
      simp only [IntOp.cmpi, beq_eq_false_iff_ne.mpr hne]; rfl
    rw [e]
    show (((0#32 : BitVec 32).toInt : ℝ) : EReal) = 0
    simp

/-! ## One head -/

theorem wqS_at (c : Dev nD) (d : Fin 512) (r : Fin 256) :
    wqS m c (ix2 d r) = aWq m c (ix2 d r) * Ideal.ofBits .bf16 0x3E00#16 := by
  unfold wqS
  rw [ldWq_eq]
  pointwise [k0_pay1]

theorem qAll_at (c : Dev nD) (b : Fin 2) (i r : Fin 256) :
    qAll m c b (ix2 i r) = ∑ d : Fin 512, aX m c (ix3 b i d) * wqS m c (ix2 d r) := by
  unfold qAll
  pointwise [k0_pay6]
  simp only [ldX_at]

theorem wts_at (c : Dev nD) (b : Fin 2) (h : Fin 4) (j i : Fin 256) :
    wts m c b h (ix2 j i) = Ideal.exp (∑ e : Fin 64, aK m c (ix4 b j h e) * qAll m c b (ix2 i ⟨64 * h.val + e.val, by have := h.isLt; have := e.isLt; omega⟩))
      * msk (F := Ideal) (ix2 j i) := by
  unfold wts qHd
  pointwise [k0_pay13]
  simp only [ldK_at]

theorem ctxHead_at (c : Dev nD) (b : Fin 2) (h : Fin 4) (e : Fin 64) (i : Fin 256) :
    hCtx m c b h (ix4 0 0 e i) = ∑ j : Fin 256, aV m c (ix4 b j h e) * wts m c b h (ix2 j i) := by
  unfold hCtx wts
  pointwise [k0_pay14]
  simp only [ldV_at]

theorem denHead_at (c : Dev nD) (b : Fin 2) (h : Fin 4) (i : Fin 256) :
    hDen m c b h (ix4 0 0 0 i) = ∑ j : Fin 256, wts m c b h (ix2 j i) := by
  unfold hDen wts
  pointwise [k0_pay15]

/-! ## The result -/

theorem ldC_at (c : Dev nD) (s : Fin 4) (b : Fin 2) (z w : Fin 1) (r i : Fin 256) :
    ldC m c s b (ix4 z w r i) = ctxOf m (dv c s.val) b r i := by
  show CTX m c _ = CTX m c (ix4 s b r i)
  refine congrArg (CTX m c) (funext fun a => Fin.ext ((emb_unit (inb_lc s b) _ a).trans ?_))
  fin_cases a
  · show s.val + z.val = s.val; omega
  · show b.val + w.val = b.val; omega
  · show 0 + r.val = r.val; omega
  · show 0 + i.val = i.val; omega

theorem ldD_at (c : Dev nD) (s : Fin 4) (b : Fin 2) (z w : Fin 1) (r : Fin 4) (i : Fin 256) :
    ldD m c s b (ix4 z w r i) = denOf m (dv c s.val) b ⟨r.val, by omega⟩ i := by
  show DEN m c _ = DEN m c (ix4 s b ⟨r.val, by omega⟩ i)
  refine congrArg (DEN m c) (funext fun a => Fin.ext ((emb_unit (inb_ld s b) _ a).trans ?_))
  fin_cases a
  · show s.val + z.val = s.val; omega
  · show b.val + w.val = b.val; omega
  · show 0 + r.val = r.val; omega
  · show 0 + i.val = i.val; omega

/-- One context row over the summed denominators of its head, as the last product reads it. -/
def ctxN (m : (ℓ : Loc nD τ sig) → Buf (Elt Ideal) ℓ) (c : Dev nD) (b : Fin 2) (r i : Fin 256) : EReal :=
  (ctxOf m (dv c 0) b r i + ctxOf m (dv c 1) b r i + ctxOf m (dv c 2) b r i + ctxOf m (dv c 3) b r i : EReal)
    * Ideal.div 1 (denOf m (dv c 0) b ⟨r.val / 64, by omega⟩ i + denOf m (dv c 1) b ⟨r.val / 64, by omega⟩ i
        + denOf m (dv c 2) b ⟨r.val / 64, by omega⟩ i + denOf m (dv c 3) b ⟨r.val / 64, by omega⟩ i : EReal)

theorem ctxN_of (c : Dev nD) (b : Fin 2) (r i : Fin 256) {x : Fin 256} {g : Fin 8} (hx : x = r) (hg : g = ⟨r.val / 64, by omega⟩) :
    (ctxOf m (dv c 0) b x i + ctxOf m (dv c 1) b x i + ctxOf m (dv c 2) b x i + ctxOf m (dv c 3) b x i : EReal)
      * Ideal.div 1 (denOf m (dv c 0) b g i + denOf m (dv c 1) b g i + denOf m (dv c 2) b g i + denOf m (dv c 3) b g i : EReal)
      = ctxN m c b r i := by
  subst hx hg
  rfl

theorem outAt_at (c : Dev nD) (b : Fin 2) (i : Fin 256) (n : Fin 512) :
    outB m c b (ix3 0 i n) = ∑ r : Fin 256, ctxN m c b r i * aWo m c (ix2 r n) := by
  unfold outB
  rw [ldWo_eq]
  pointwise [k0_pay40, k0_pay2, k0_pay38, k0_pay39]
  simp only [ldC_at, ldD_at]
  refine Finset.sum_congr rfl fun r _ => congrArg (fun x : EReal => x * aWo m c (ix2 r n)) ?_
  have hr := r.isLt
  by_cases h1 : r.val < 64
  · rw [dif_pos h1]
    exact ctxN_of m c b r i rfl (Fin.ext (show 0 = r.val / 64 by omega))
  · rw [dif_neg h1]
    by_cases h2 : r.val - 64 < 64
    · rw [dif_pos h2]
      exact ctxN_of m c b r i (Fin.ext (show 64 + (r.val - 64) = r.val by omega)) (Fin.ext (show 1 = r.val / 64 by omega))
    · rw [dif_neg h2]
      by_cases h3 : r.val - 64 - 64 < 64
      · rw [dif_pos h3]
        exact ctxN_of m c b r i (Fin.ext (show 128 + (r.val - 64 - 64) = r.val by omega)) (Fin.ext (show 2 = r.val / 64 by omega))
      · rw [dif_neg h3]
        exact ctxN_of m c b r i (Fin.ext (show 192 + (r.val - 64 - 64 - 64) = r.val by omega)) (Fin.ext (show 3 = r.val / 64 by omega))

end Cert.KernelIdeal.Attn

end
-- ==== Proof.RVal.lean ====
/-
# The reference's value over the reals, element by element

The reference's long term is cut into named arrays: the word arithmetic of the mask, the masked scores, their maximum, the
exponentials, the weights, the contexts. Each is then read at an index.
-/
module

public import proofs.«01_k».proof.Proof.Gen.ReferenceIdeal.Run
public import Idealize.ShloMosaic.Lib.Pointwise
public import Idealize.ShloMosaic.Lib.Tactic.CleanTypes
public import Idealize.ShloMosaic.Lib.Routing.OpsOrder

@[expose] public section

set_option maxRecDepth 16384

noncomputable section

namespace Cert.ReferenceIdeal.Attn

open Cert.ReferenceIdeal Cert.ReferenceIdeal.Gen Cert.ReferenceIdeal.Value
open Idealize.ShloMosaic Idealize.ShloMosaic.TcCoe

/-! ## The mask's words -/

/-- The block number of a query: its index divided by 64. -/
def qBlk : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))

/-- The block number of a key. -/
def kBlk : IVec S1024 32 :=
  select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))

/-- The divisor 4, guarded against zero. -/
def four : IVec S_ 32 := select (cmpi .eq (id (constantI S_ 32 4#32)) (constantI S_ 32 0#32)) (constantI S_ 32 1#32) (id (constantI S_ 32 4#32))

def kRem : IVec S1x1024 32 := Host.remsi (broadcastInDim S1x1024 ![1] bcast_S1024_S1x1024_1 kBlk) (broadcastInDim S1x1024 ![] bcast_S_S1x1024 four)
def qRem : IVec S256x1 32 := Host.remsi (broadcastInDim S256x1 ![0] bcast_S256_S256x1_0 qBlk) (broadcastInDim S256x1 ![] bcast_S_S256x1 four)

/-- A key's block number modulo 4. -/
def kMod : IVec S1x1024 32 :=
  select (andi (cmpi .ne (cmpi .slt kRem (broadcastInDim S1x1024 ![] bcast_S_S1x1024 (constantI S_ 32 0#32))) (broadcastInDim S1x1024 ![] bcast_S_S1x1024 (cmpi .slt four (constantI S_ 32 0#32)))) (cmpi .ne kRem (broadcastInDim S1x1024 ![] bcast_S_S1x1024 (constantI S_ 32 0#32)))) (addi kRem (broadcastInDim S1x1024 ![] bcast_S_S1x1024 four)) kRem

/-- A query's block number modulo 4. -/
def qMod : IVec S256x1 32 :=
  select (andi (cmpi .ne (cmpi .slt qRem (broadcastInDim S256x1 ![] bcast_S_S256x1 (constantI S_ 32 0#32))) (broadcastInDim S256x1 ![] bcast_S_S256x1 (cmpi .slt four (constantI S_ 32 0#32)))) (cmpi .ne qRem (broadcastInDim S256x1 ![] bcast_S_S256x1 (constantI S_ 32 0#32)))) (addi qRem (broadcastInDim S256x1 ![] bcast_S_S256x1 four)) qRem

/-- Which keys a query attends to. -/
def keep : IVec S256x1024 1 :=
  ori (cmpi .eq (broadcastInDim S256x1024 ![0, 1] bcast_S256x1_S256x1024_0_1 (broadcastInDim S256x1 ![0] bcast_S256_S256x1_0 qBlk)) (broadcastInDim S256x1024 ![0, 1] bcast_S1x1024_S256x1024_0_1 (broadcastInDim S1x1024 ![1] bcast_S1024_S1x1024_1 kBlk))) (cmpi .eq (broadcastInDim S256x1024 ![0, 1] bcast_S1x1024_S256x1024_0_1 kMod) (broadcastInDim S256x1024 ![0, 1] bcast_S256x1_S256x1024_0_1 qMod))

/-- Which queries attend to any key. -/
def rowKeep : IVec S1x1x256x1 1 :=
  broadcastInDim S1x1x256x1 ![2] bcast_S256_S1x1x256x1_2 (Host.reduce IntOp.ori keep (constantI S_ 1 0#1) reducesTo_S256x1024_S256_d1 h_S_)

/-! ## The floating part, as arrays of the arguments -/

variable (x : FVec Ideal S2x256x512 .bf16) (wq : FVec Ideal S512x256 .bf16) (k v : FVec Ideal S2x1024x4x64 .bf16)

def qry : FVec Ideal S2x256x4x64 .f32 :=
  shapeCast S2x256x4x64 (Host.dotGeneral dot_S2x256x512_S512x256_S2x256x256_2_0_01_1_n_n none (extf .f32 x bitsLt_bf16_f32) (extf .f32 wq bitsLt_bf16_f32)) shapeCasts_S2x256x256_S2x256x4x64

def score : FVec Ideal S2x4x256x1024 .f32 :=
  mulf (Host.dotGeneral dot_S2x256x4x64_S2x1024x4x64_S2x4x256x1024_3_3_1_1_02_02 none (qry x wq) (extf .f32 k bitsLt_bf16_f32)) (broadcastInDim S2x4x256x1024 ![] bcast_S_S2x4x256x1024 (constant S_ .f32 0x3E000000#32))

def masked : FVec Ideal S2x4x256x1024 .f32 :=
  select (broadcastInDim S2x4x256x1024 ![0, 1, 2, 3] bcast_S1x1x256x1024_S2x4x256x1024_0_1_2_3 (broadcastInDim S1x1x256x1024 ![2, 3] bcast_S256x1024_S1x1x256x1024_2_3 keep)) (score x wq k) (broadcastInDim S2x4x256x1024 ![] bcast_S_S2x4x256x1024 (id (constant S_ .f32 0xFF800000#32)))

def top : FVec Ideal S2x4x256 .f32 :=
  Host.reduce FloatOps.maximumf (masked x wq k) (constant S_ .f32 0xFF800000#32) reducesTo_S2x4x256x1024_S2x4x256_d3 h_S_

def pexp : FVec Ideal S2x4x256x1024 .f32 :=
  Host.exp (subf (masked x wq k) (broadcastInDim S2x4x256x1024 ![0, 1, 2, 3] bcast_S2x4x256x1_S2x4x256x1024_0_1_2_3 (broadcastInDim S2x4x256x1 ![0, 1, 2] bcast_S2x4x256_S2x4x256x1_0_1_2 (top x wq k))))

def psum : FVec Ideal S2x4x256 .f32 :=
  Host.reduceAdd (pexp x wq k) (constant S_ .f32 0x00000000#32) reducesTo_S2x4x256x1024_S2x4x256_d3 h_S_

def weight : FVec Ideal S2x4x256x1024 .f32 :=
  select (broadcastInDim S2x4x256x1024 ![0, 1, 2, 3] bcast_S1x1x256x1_S2x4x256x1024_0_1_2_3 rowKeep) (Host.divf (pexp x wq k) (broadcastInDim S2x4x256x1024 ![0, 1, 2, 3] bcast_S2x4x256x1_S2x4x256x1024_0_1_2_3 (select (broadcastInDim S2x4x256x1 ![0, 1, 2, 3] bcast_S1x1x256x1_S2x4x256x1_0_1_2_3 rowKeep) (broadcastInDim S2x4x256x1 ![0, 1, 2] bcast_S2x4x256_S2x4x256x1_0_1_2 (psum x wq k)) (broadcastInDim S2x4x256x1 ![] bcast_S_S2x4x256x1 (id (constant S_ .f32 0x3F800000#32)))))) (broadcastInDim S2x4x256x1024 ![] bcast_S_S2x4x256x1024 (id (constant S_ .f32 0x00000000#32)))

def ctx : FVec Ideal S2x256x256 .f32 :=
  shapeCast S2x256x256 (transpose S2x256x4x64 [0, 3, 1, 2] (Host.dotGeneral dot_S2x1024x4x64_S2x4x256x1024_S2x4x64x256_1_3_3_2_02_01 none (extf .f32 v bitsLt_bf16_f32) (weight x wq k)) transposes_S2x4x64x256_S2x256x4x64_0_3_1_2) shapeCasts_S2x256x4x64_S2x256x256

def out (wo : FVec Ideal S256x512 .bf16) : FVec Ideal S2x256x512 .bf16 :=
  truncf .bf16 (Host.dotGeneral dot_S2x256x256_S256x512_S2x256x512_2_0_01_1_n_n none (ctx x wq k v) (extf .f32 wo bitsLt_bf16_f32)) bitsLt_bf16_f32

/-- The reference's result is these arrays, one after the other. -/
theorem res_eq (m : (ℓ : Loc nD τ sig) → Buf (Elt Ideal) ℓ) (c : Dev nD) :
    res_main_v45 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold res_main_v45
  rfl

/-! ## The mask at an index -/

theorem qBlk_at (i : Fin 256) : qBlk (ix1 i) = BitVec.ofNat 32 (i.val / 64) := by
  revert i
  unfold qBlk
  pointwise
  decide +kernel

theorem kBlk_at (j : Fin 1024) : kBlk (ix1 j) = BitVec.ofNat 32 (j.val / 64) := by
  revert j
  unfold kBlk
  pointwise
  decide +kernel

/-- The mask's last words as a function of the two block numbers. -/
theorem blocks_eq : ∀ (q : Fin 4) (k : Fin 16),
    let md (x : BitVec 32) : BitVec 32 := Scalar.select
      (IntOp.andi (IntOp.cmpi .ne (IntOp.cmpi .slt (IntOp.remsi ArithUnit.host x (four ix0)) 0#32) (IntOp.cmpi .slt (four ix0) 0#32))
        (IntOp.cmpi .ne (IntOp.remsi ArithUnit.host x (four ix0)) 0#32))
      (IntOp.addi (IntOp.remsi ArithUnit.host x (four ix0)) (four ix0)) (IntOp.remsi ArithUnit.host x (four ix0))
    IntOp.ori (IntOp.cmpi .eq (BitVec.ofNat 32 q.val) (BitVec.ofNat 32 k.val))
      (IntOp.cmpi .eq (md (BitVec.ofNat 32 k.val)) (md (BitVec.ofNat 32 q.val))) = if k.val % 4 = q.val then 1#1 else 0#1 := by
  decide +kernel

theorem keep_at (i : Fin 256) (j : Fin 1024) : keep (ix2 i j) = if j.val / 64 % 4 = i.val / 64 then 1#1 else 0#1 := by
  unfold keep
  pointwise [kMod, qMod, kRem, qRem]
  rw [qBlk_at, kBlk_at]
  exact blocks_eq ⟨i.val / 64, by omega⟩ ⟨j.val / 64, by omega⟩

/-! ## The floating part at an index -/

/-- The word of the masked scores stands for −∞. -/
theorem ofBits_absent : Ideal.ofBits .f32 0xFF800000#32 = (⊥ : EReal) := by
  simp [Ideal.ofBits, Ideal.ieee]

theorem qry_at (b : Fin 2) (i : Fin 256) (h : Fin 4) (e : Fin 64) :
    qry x wq (ix4 b i h e) = ∑ d : Fin 512, x (ix3 b i d) * wq (ix2 d ⟨64 * h.val + e.val, by omega⟩) := by
  unfold qry
  pointwise
  exact Finset.sum_congr rfl fun d _ => congrArg (fun r => x (ix3 b i d) * wq (ix2 d r)) (Fin.ext (show h.val * 64 + e.val = 64 * h.val + e.val by omega))

theorem score_at (b : Fin 2) (h : Fin 4) (i : Fin 256) (j : Fin 1024) :
    score x wq k (ix4 b h i j) = (∑ e : Fin 64, qry x wq (ix4 b i h e) * k (ix4 b j h e)) * Ideal.ofBits .f32 0x3E000000#32 := by
  unfold score
  pointwise

theorem masked_at (b : Fin 2) (h : Fin 4) (i : Fin 256) (j : Fin 1024) :
    masked x wq k (ix4 b h i j) = if j.val / 64 % 4 = i.val / 64 then score x wq k (ix4 b h i j) else ⊥ := by
  unfold masked
  pointwise
  rw [keep_at]
  split_ifs
  · rfl
  · exact ofBits_absent

theorem top_at (b : Fin 2) (h : Fin 4) (i : Fin 256) :
    top x wq k (ix3 b h i) = (Finset.univ : Finset (Fin 1024)).fold max (⊥ : EReal) fun j => masked x wq k (ix4 b h i j) := by
  unfold top
  pointwise
  rw [ofBits_absent]

theorem pexp_at (b : Fin 2) (h : Fin 4) (i : Fin 256) (j : Fin 1024) :
    pexp x wq k (ix4 b h i j) = Ideal.exp (masked x wq k (ix4 b h i j) - top x wq k (ix3 b h i)) := by
  unfold pexp
  pointwise

theorem psum_at (b : Fin 2) (h : Fin 4) (i : Fin 256) :
    psum x wq k (ix3 b h i) = ∑ j : Fin 1024, pexp x wq k (ix4 b h i j) := by
  unfold psum
  pointwise

theorem rowKeep_at (i : Fin 256) (z z' z'' : Fin 1) : rowKeep (ix4 z z' i z'') = 1#1 := by
  unfold rowKeep
  pointwise
  have hi := i.isLt
  rw [Routing.fold_ori]
  refine ⟨⟨i.val, by omega⟩, Finset.mem_univ _, ?_⟩
  rw [keep_at]
  exact if_pos (show i.val / 64 % 4 = i.val / 64 by omega)

theorem weight_at (b : Fin 2) (h : Fin 4) (i : Fin 256) (j : Fin 1024) :
    weight x wq k (ix4 b h i j) = Ideal.div (pexp x wq k (ix4 b h i j)) (psum x wq k (ix3 b h i)) := by
  unfold weight
  pointwise
  rw [rowKeep_at]
  rfl

theorem ctx_at (b : Fin 2) (i r : Fin 256) :
    ctx x wq k v (ix3 b i r) = ∑ j : Fin 1024, v (ix4 b j ⟨r.val / 64, by omega⟩ ⟨r.val % 64, by omega⟩)
      * weight x wq k (ix4 b ⟨r.val / 64, by omega⟩ i j) := by
  unfold ctx
  pointwise

theorem out_at (wo : FVec Ideal S256x512 .bf16) (b : Fin 2) (i : Fin 256) (n : Fin 512) :
    out x wq k v wo (ix3 b i n) = ∑ r : Fin 256, ctx x wq k v (ix3 b i r) * wo (ix2 r n) := by
  unfold out
  pointwise

end Cert.ReferenceIdeal.Attn

end
-- ==== Proof.Softmax.lean ====
/-
# Dividing by the sum before or after

One softmax row over the extended reals. The reference subtracts the row's maximum, divides each exponential by their sum and
then takes the weighted sum of the values; the kernel takes the weighted sum of the plain exponentials and divides last. The
scores are real; the values may be anything.
-/
module

public import Idealize.ShloMosaic.Lib.IdealHost
public import Idealize.ShloMosaic.PureOps.Ideal
public import Mathlib.Data.EReal.Operations
public import Mathlib.Algebra.BigOperators.Fin

@[expose] public section

noncomputable section

namespace Cert.Row

open Idealize.ShloMosaic

variable {ι : Type*} [Fintype ι]

theorem sum_coe (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real runs through a sum. -/
theorem sum_mul_coe (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top r)]

/-- The running maximum of finite or absent scores, at least one present, is real. -/
theorem fold_max_real (t : ι → EReal) (ht : ∀ i, t i ≠ ⊤) (hex : ∃ i, t i ≠ ⊥) :
    ∃ M : ℝ, (Finset.univ : Finset ι).fold max (⊥ : EReal) t = M := by
  obtain ⟨i0, hi0⟩ := hex
  have hlow : t i0 ≤ (Finset.univ : Finset ι).fold max (⊥ : EReal) t :=
    Finset.le_fold_max (t i0) |>.mpr (Or.inr ⟨i0, Finset.mem_univ _, le_rfl⟩)
  have hup : (Finset.univ : Finset ι).fold max (⊥ : EReal) t < ⊤ :=
    Finset.fold_max_lt ⊤ |>.mpr ⟨bot_lt_top, fun i _ => lt_top_iff_ne_top.mpr (ht i)⟩
  have hb : (Finset.univ : Finset ι).fold max (⊥ : EReal) t ≠ ⊥ := fun h => hi0 (le_bot_iff.mp (h ▸ hlow))
  exact ⟨_, (EReal.coe_toReal hup.ne hb).symm⟩

theorem exp_coe (r : ℝ) : Ideal.exp (r : EReal) = (Real.exp r : EReal) := rfl
theorem exp_bot : Ideal.exp (⊥ : EReal) = 0 := rfl

/-- One row: `p` are the shifted exponentials of the masked scores. -/
theorem row_eq (s : ι → ℝ) (keep : ι → Prop) [DecidablePred keep] (hex : ∃ i, keep i) (v : ι → EReal) (t p : ι → EReal)
    (ht : ∀ i, t i = if keep i then (s i : EReal) else ⊥)
    (hp : ∀ i, p i = Ideal.exp (t i - (Finset.univ : Finset ι).fold max (⊥ : EReal) t)) :
    ∑ i, v i * Ideal.div (p i) (∑ j, p j)
      = (∑ i, v i * (Ideal.exp (s i) * if keep i then 1 else 0)) * Ideal.div 1 (∑ i, Ideal.exp (s i) * if keep i then (1 : EReal) else 0) := by
  obtain ⟨M, hM⟩ := fold_max_real t (fun i => by rw [ht]; split_ifs <;> simp)
    (hex.imp fun i hi => by rw [ht, if_pos hi]; simp)
  rw [hM] at hp
  set e : ι → ℝ := fun i => if keep i then Real.exp (s i) else 0 with he
  have he0 : ∀ i, 0 ≤ e i := fun i => by simp only [he]; split_ifs <;> positivity
  have hk : ∀ i, (Ideal.exp (s i) * if keep i then (1 : EReal) else 0) = (e i : EReal) := fun i => by
    simp only [he]; split_ifs <;> simp [exp_coe]
  have hpe : ∀ i, p i = ((e i * Real.exp (-M) : ℝ) : EReal) := fun i => by
    rw [hp, ht]
    simp only [he]
    split_ifs
    · rw [← EReal.coe_sub, ← Real.exp_add]
      rw [exp_coe, sub_eq_add_neg]
    · rw [EReal.bot_sub, exp_bot]; simp
  have hL : 0 < ∑ i, e i := by
    obtain ⟨i0, hi0⟩ := hex
    refine Finset.sum_pos' (fun i _ => he0 i) ⟨i0, Finset.mem_univ _, ?_⟩
    simp only [he, if_pos hi0]; positivity
  have hW : ∑ j, p j = (((∑ i, e i) * Real.exp (-M) : ℝ) : EReal) := by
    rw [Finset.sum_mul, ← sum_coe]
    exact Finset.sum_congr rfl fun i _ => hpe i
  have hEx : Real.exp (-M) ≠ 0 := (Real.exp_pos _).ne'
  simp only [hk]
  rw [hW, sum_coe, Ideal.div_coe hL.ne' 1, one_mul, sum_mul_coe _ _ (by positivity)]
  refine Finset.sum_congr rfl fun i _ => ?_
  rw [hpe, Ideal.div_coe (mul_ne_zero hL.ne' hEx), mul_assoc, ← EReal.coe_mul, ← EReal.coe_mul]
  congr 2
  field_simp

end Cert.Row

end
-- ==== Proof.Meet.lean ====
/-
# The two values are one

With `x`, `Wq` and the keys finite, one context row of the kernel over its denominator is the reference's context: the
scores of both are the same real numbers, the device's 256 keys are a quarter of the reference's 1024, and the mask is
the same on each quarter.
-/
module

public import proofs.«01_k».proof.Proof.KVal
public import proofs.«01_k».proof.Proof.RVal
public import proofs.«01_k».proof.Proof.Softmax
public import Idealize.ShloMosaic.Lib.Layout

@[expose] public section

set_option maxRecDepth 16384

noncomputable section

namespace Cert.Meet

open Idealize.ShloMosaic
open Cert.KernelIdeal.Attn

/-! ## Finite inputs -/

/-- A float whose absolute value compares below +∞ is real. -/
theorem real_of_lt (a : EReal) (h : FloatOps.cmpf (F := Ideal) (φ := .f32) .olt (FloatOps.absf (F := Ideal) (φ := .f32) a) (FloatOps.ofBits (F := Ideal) .f32 0x7F800000#32) = 1#1) :
    ((a.toReal : ℝ) : EReal) = a := by
  have ht : (FloatOps.ofBits (F := Ideal) .f32 0x7F800000#32 : EReal) = ⊤ := by
    show Ideal.ofBits .f32 0x7F800000#32 = ⊤
    simp [Ideal.ofBits, Ideal.ieee]
  rw [ht] at h
  refine EReal.coe_toReal ?_ ?_ <;> rintro rfl <;> revert h <;> simp [Ideal.cmpf_def, Ideal.absf_def, Ideal.cmp]

theorem eighth_f32 : Ideal.ofBits .f32 0x3E000000#32 = ((1 / 8 : ℝ) : EReal) := by
  simp [Ideal.ofBits, Ideal.ieee]
  rw [← EReal.coe_mul]
  norm_num

theorem eighth_bf16 : Ideal.ofBits .bf16 0x3E00#16 = ((1 / 8 : ℝ) : EReal) := by
  simp [Ideal.ofBits, Ideal.ieee]
  rw [← EReal.coe_mul]
  norm_num

/-! ## Sums over the devices -/

/-- Starting the sum over the devices at one's own place changes nothing. -/
theorem rot_sum {M : Type*} [AddCommMonoid M] (f : Fin 4 → M) (c : Fin 4) : f (dv c 0) + f (dv c 1) + f (dv c 2) + f (dv c 3) = ∑ d, f d := by
  rw [Fin.sum_univ_four]
  fin_cases c
  · rfl
  · show f 1 + f 2 + f 3 + f 0 = f 0 + f 1 + f 2 + f 3
    rw [add_comm, ← add_assoc, ← add_assoc]
  · show f 2 + f 3 + f 0 + f 1 = f 0 + f 1 + f 2 + f 3
    rw [add_assoc, add_comm, ← add_assoc]
  · show f 3 + f 0 + f 1 + f 2 = f 0 + f 1 + f 2 + f 3
    rw [add_assoc, add_assoc, add_comm, ← add_assoc]

/-- The key `j` of device `d` among all keys. -/
def gk (d : Fin 4) (j : Fin 256) : Fin 1024 := ⟨256 * d.val + j.val, by omega⟩

/-- A sum over all keys, device by device. -/
theorem sum_keys {M : Type*} [AddCommMonoid M] (f : Fin 1024 → M) : ∑ k, f k = ∑ d : Fin 4, ∑ j : Fin 256, f (gk d j) := by
  rw [← Fintype.sum_prod_type', ← (finProdFinEquiv (m := 4) (n := 256)).sum_comp]
  refine Finset.sum_congr rfl fun p _ => congrArg f (Fin.ext ?_)
  show p.2.val + 256 * p.1.val = 256 * p.1.val + p.2.val
  exact Nat.add_comm _ _

/-! ## One context row -/

variable (m : (ℓ : Loc Cert.KernelIdeal.nD Cert.KernelIdeal.τ Cert.KernelIdeal.sig) → Buf (Elt Ideal) ℓ)
variable (x : FVec Ideal Cert.ReferenceIdeal.S2x256x512 .bf16) (wq : FVec Ideal Cert.ReferenceIdeal.S512x256 .bf16)
  (k v : FVec Ideal Cert.ReferenceIdeal.S2x1024x4x64 .bf16)

/-- The real score of a query against a key. -/
def sc (b : Fin 2) (h : Fin 4) (i : Fin 256) (j : Fin 1024) : ℝ :=
  ∑ e : Fin 64, (k (ix4 b j h e) : EReal).toReal * ∑ d : Fin 512, (x (ix3 b i d) : EReal).toReal
    * ((wq (ix2 d ⟨64 * h.val + e.val, by omega⟩) : EReal).toReal * (1 / 8))

variable (hx : ∀ i, (((x i : EReal).toReal : ℝ) : EReal) = x i) (hw : ∀ i, (((wq i : EReal).toReal : ℝ) : EReal) = wq i)
  (hk : ∀ i, (((k i : EReal).toReal : ℝ) : EReal) = k i)

include hx hw hk in
/-- The reference's score is that real number. -/
theorem score_ref (b : Fin 2) (h : Fin 4) (i : Fin 256) (j : Fin 1024) :
    (Cert.ReferenceIdeal.Attn.score x wq k (ix4 b h i j) : EReal) = (sc x wq k b h i j : EReal) := by
  rw [Cert.ReferenceIdeal.Attn.score_at, eighth_f32]
  have hq : ∀ e : Fin 64, (Cert.ReferenceIdeal.Attn.qry x wq (ix4 b i h e) : EReal)
      = ((∑ d : Fin 512, (x (ix3 b i d) : EReal).toReal * (wq (ix2 d ⟨64 * h.val + e.val, by omega⟩) : EReal).toReal : ℝ) : EReal) := fun e => by
    rw [Cert.ReferenceIdeal.Attn.qry_at, ← Row.sum_coe]
    refine Finset.sum_congr rfl fun d _ => ?_
    rw [EReal.coe_mul, hx, hw]
  have hs : ∀ e : Fin 64, (Cert.ReferenceIdeal.Attn.qry x wq (ix4 b i h e) * k (ix4 b j h e) : EReal)
      = (((∑ d : Fin 512, (x (ix3 b i d) : EReal).toReal * (wq (ix2 d ⟨64 * h.val + e.val, by omega⟩) : EReal).toReal)
          * (k (ix4 b j h e) : EReal).toReal : ℝ) : EReal) := fun e => by
    rw [hq, EReal.coe_mul, hk]
  rw [Finset.sum_congr rfl fun e _ => hs e, Row.sum_coe, ← EReal.coe_mul]
  refine congrArg _ ?_
  unfold sc
  rw [Finset.sum_mul]
  refine Finset.sum_congr rfl fun e _ => ?_
  rw [mul_comm (∑ d : Fin 512, _) _, mul_assoc, Finset.sum_mul]
  refine congrArg _ (Finset.sum_congr rfl fun d _ => ?_)
  ring

variable (hX : ∀ c, aX m c = x) (hW : ∀ c, aWq m c = wq)
  (hK : ∀ c b j h e, aK m c (ix4 b j h e) = k (ix4 b (gk c j) h e))
  (hV : ∀ c b j h e, aV m c (ix4 b j h e) = v (ix4 b (gk c j) h e))

include hx hw hk hX hW hK in
/-- The kernel's score of a device's key is that real number. -/
theorem score_ker (c : Fin 4) (b : Fin 2) (h : Fin 4) (i j : Fin 256) :
    (∑ e : Fin 64, aK m c (ix4 b j h e) * qAll m c b (ix2 i ⟨64 * h.val + e.val, by omega⟩) : EReal)
      = (sc x wq k b h i (gk c j) : EReal) := by
  unfold sc
  rw [← Row.sum_coe]
  refine Finset.sum_congr rfl fun e _ => ?_
  rw [hK, EReal.coe_mul, hk, qAll_at, ← Row.sum_coe]
  refine congrArg _ (Finset.sum_congr rfl fun d _ => ?_)
  rw [wqS_at, eighth_bf16, hX, hW, EReal.coe_mul, EReal.coe_mul, hx, hw]

include hx hw hk hX hW hK in
/-- A masked exponential of the kernel. -/
theorem wts_ker (c : Fin 4) (b : Fin 2) (h : Fin 4) (j i : Fin 256) :
    (wts m c b h (ix2 j i) : EReal) = Ideal.exp (sc x wq k b h i (gk c j) : EReal)
      * (if (gk c j).val / 64 % 4 = i.val / 64 then (1 : EReal) else 0) := by
  rw [wts_at, msk_at, score_ker m x wq k hx hw hk hX hW hK]
  have hc := c.isLt
  have hj := j.isLt
  have hg : (gk c j).val / 64 % 4 = j.val / 64 := by
    show (256 * c.val + j.val) / 64 % 4 = j.val / 64
    omega
  rw [hg]

include hx hw hk hX hW hK hV in
/-- One context row of the kernel, divided by its denominators, is the reference's. -/
theorem ctx_eq (c : Fin 4) (b : Fin 2) (r i : Fin 256) :
    ctxN m c b r i = Cert.ReferenceIdeal.Attn.ctx x wq k v (ix3 b i r) := by
  have hr := r.isLt
  have hi := i.isLt
  rw [Cert.ReferenceIdeal.Attn.ctx_at]
  simp only [Cert.ReferenceIdeal.Attn.weight_at, Cert.ReferenceIdeal.Attn.psum_at]
  refine Eq.trans ?_ (Row.row_eq (sc x wq k b ⟨r.val / 64, by omega⟩ i) (fun j : Fin 1024 => j.val / 64 % 4 = i.val / 64)
    ⟨⟨i.val, by omega⟩, show i.val / 64 % 4 = i.val / 64 by omega⟩ _
    (fun j => Cert.ReferenceIdeal.Attn.masked x wq k (ix4 b ⟨r.val / 64, by omega⟩ i j)) _
    (fun j => by rw [Cert.ReferenceIdeal.Attn.masked_at, score_ref x wq k hx hw hk])
    (fun j => by rw [Cert.ReferenceIdeal.Attn.pexp_at, Cert.ReferenceIdeal.Attn.top_at])).symm
  unfold ctxN
  refine congrArg₂ (fun a d : EReal => a * Ideal.div 1 d) ?_ ?_
  · refine (rot_sum (fun d : Fin 4 => (ctxOf m d b r i : EReal)) c).trans ((sum_keys _).trans ?_).symm
    refine Finset.sum_congr rfl fun d _ => ?_
    refine Eq.trans ?_ (ctxHead_at m d b _ _ i).symm
    refine Finset.sum_congr rfl fun j _ => ?_
    rw [hV, wts_ker m x wq k hx hw hk hX hW hK]
  · refine (rot_sum (fun d : Fin 4 => (denOf m d b ⟨r.val / 64, by omega⟩ i : EReal)) c).trans ((sum_keys _).trans ?_).symm
    refine Finset.sum_congr rfl fun d _ => ?_
    have hh : (⟨r.val / 64 % 4, Nat.mod_lt _ (by decide)⟩ : Fin 4) = ⟨r.val / 64, by omega⟩ := Fin.ext (show r.val / 64 % 4 = r.val / 64 by omega)
    refine Eq.trans ?_ (denHead_at m d b _ i).symm
    refine Finset.sum_congr rfl fun j _ => ?_
    rw [wts_ker m x wq k hx hw hk hX hW hK]
    rw [hh]

include hx hw hk hX hW hK hV in
/-- The kernel's result is the reference's. -/
theorem out_eq (wo : FVec Ideal Cert.ReferenceIdeal.S256x512 .bf16) (hO : ∀ c, aWo m c = wo) (c : Fin 4) (b : Fin 2) (i : Fin 256) (n : Fin 512) :
    (outB m c b (ix3 0 i n) : EReal) = Cert.ReferenceIdeal.Attn.out x wq k v wo (ix3 b i n) := by
  rw [outAt_at, Cert.ReferenceIdeal.Attn.out_at]
  refine Finset.sum_congr rfl fun r _ => ?_
  rw [ctx_eq m x wq k v hx hw hk hX hW hK hV, hO]

end Cert.Meet

end
-- ==== Proof.Result.lean ====
/-
# The result array

The kernel's one grid point writes the whole result, so the array ends holding the block that the body stores.
-/
module

public import proofs.«01_k».proof.Proof.Launch
public import Idealize.ShloMosaic.Lib.Pipeline.Value

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F]
variable (m : (ℓ : Loc nD τ sig) → Buf (Elt F) ℓ)

/-- The one block of the result's window is the whole array, so the result is the block that the body stores. -/
theorem final_out (c : Dev nD) : finalA m c 5 = outAt m c := by
  unfold finalA
  rw [show cfg0.N = ((t0_0 : Fin cfg0.N).val + 1) from rfl, (dats m 0 c).arrAt_succ 5 t0_0, if_pos (flush0_5 t0_0)]
  refine (Memref.write_access_unit_zero_univ (Elt F) main_v1 (funext fun a => Nat.zero_mul _) _ _ _).trans ?_
  rfl

end Cert.KernelIdeal.Attn

end
-- ==== Proof.Algebra.lean ====
/-
# The value claim

What the precondition and the layout of the arguments say of the arrays, and the two runs ending at one result.
-/
module

public import proofs.«01_k».proof.Proof.Meet
public import proofs.«01_k».proof.Proof.Result
public import proofs.«01_k».proof.Proof.Frames
public import proofs.«01_k».proof.Proof.Gen.Pre_finite_KernelIdeal
public import proofs.«01_k».proof.Proof.Gen.Pre_finite_ReferenceIdeal

@[expose] public section

set_option maxRecDepth 16384

noncomputable section

namespace Cert.Meet

open Idealize.ShloMosaic Idealize.SL.Sem
open Cert.KernelIdeal.Attn

/-- An element of a device's block, in the whole array. -/
theorem block_at {α : Type} (v : (⟨4, ![2, 1024, 4, 64]⟩ : Shape).Idx → α) (c : Fin 4) (b : Fin 2) (j : Fin 256) (h : Fin 4) (e : Fin 64) :
    Layout.block ⟨4, ![2, 256, 4, 64]⟩ ⟨4, ![2, 1024, 4, 64]⟩ 1 4 c v (by decide) (ix4 b j h e) = v (ix4 b (gk c j) h e) := by
  refine congrArg v (funext fun a => Fin.ext ?_)
  fin_cases a
  · rfl
  · show c.val * 256 + j.val = 256 * c.val + j.val
    omega
  · rfl
  · rfl

/-- Every key is some device's. -/
theorem key_of (i : (⟨4, ![2, 1024, 4, 64]⟩ : Shape).Idx) : ∃ (c : Fin 4) (b : Fin 2) (j : Fin 256) (h : Fin 4) (e : Fin 64), i = ix4 b (gk c j) h e := by
  have h1 : (i 1).val < 1024 := (i 1).isLt
  refine ⟨⟨(i 1).val / 256, by omega⟩, i 0, ⟨(i 1).val % 256, by omega⟩, i 2, i 3, funext fun a => Fin.ext ?_⟩
  fin_cases a
  · rfl
  · show (i 1).val = 256 * ((i 1).val / 256) + (i 1).val % 256
    omega
  · rfl
  · rfl

/-- What the precondition says: the device's `x`, `Wq` and keys are real. -/
theorem finite_of (m : (ℓ : Loc Cert.KernelIdeal.nD Cert.KernelIdeal.τ Cert.KernelIdeal.sig) → Buf (Elt Ideal) ℓ)
    (hp : Cert.Pre_KernelIdeal_finite_KernelIdeal (hPre_finite_KernelIdeal := Cert.Pre_finite_KernelIdeal.Gen.facts) m) (c : Fin 4) :
    (∀ i, (((aX m c i : EReal).toReal : ℝ) : EReal) = aX m c i) ∧ (∀ i, (((aWq m c i : EReal).toReal : ℝ) : EReal) = aWq m c i)
      ∧ (∀ i, (((aK m c i : EReal).toReal : ℝ) : EReal) = aK m c i) := by
  obtain ⟨h0, h1, h2⟩ := hp c
  exact ⟨fun i => real_of_lt _ (congrFun h0 i), fun i => real_of_lt _ (congrFun h1 i), fun i => real_of_lt _ (congrFun h2 i)⟩

/-- The idealized kernel computes the reference's result on every device, when `x`, `Wq` and the keys are finite. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hp hargs
  refine ⟨Cert.ReferenceIdeal.Value.res_main_v45 m' 0, ?_, (θ_run _ _ _).mono (fun r h => h 0) (Cert.ReferenceIdeal.Value.run (F := Ideal) m' g')⟩
  refine (θ_run _ _ _).mono (fun r h c => ⟨?_, args_kept m r h.1 c⟩) (run_main (F := Ideal) m g)
  refine (h.1 c 5).trans ((final_out m c).trans ?_)
  rw [Cert.ReferenceIdeal.Attn.res_eq]
  have hX := fun d => (hargs d).1
  have hW := fun d => (hargs d).2.1
  have hK := fun (d : Fin 4) b j h e => (congrFun (hargs d).2.2.1 (ix4 b j h e)).trans (block_at _ d b j h e)
  have hV := fun (d : Fin 4) b j h e => (congrFun (hargs d).2.2.2.1 (ix4 b j h e)).trans (block_at _ d b j h e)
  have hO := fun d => (hargs d).2.2.2.2
  funext (i : (⟨3, ![2, 256, 512]⟩ : Shape).Idx)
  refine (out_eq m _ _ _ _ (fun y => ?_) (fun y => ?_) (fun y => ?_) hX hW hK hV _ hO c (i 0) (i 1) (i 2)).trans (congrArg _ (eq_ix3 i).symm)
  · rw [← hX 0]; exact (finite_of m hp 0).1 y
  · rw [← hW 0]; exact (finite_of m hp 0).2.1 y
  · obtain ⟨d, b, j, h, e, rfl⟩ := key_of y
    have hk := (finite_of m hp d).2.2 (ix4 b j h e)
    have hE : aK m d (ix4 b j h e) = _ := hK d b j h e
    rw [hE] at hk
    exact hk

end Cert.Meet

end
-- ==== Proof.lean ====
/- The claims of this certificate put together: the frames of the kernel, of the idealized kernel and of the reference, and
   the idealized kernel's result being the reference's. -/
module

public import proofs.«01_k».proof.Defs
public import proofs.«01_k».proof.Proof.Frames
public import proofs.«01_k».proof.Proof.Algebra

@[expose] public section

noncomputable section

namespace Cert.Proof

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts,
    Cert.KernelIdeal.Attn.frame_kernel, Cert.KernelIdeal.Attn.frame_ideal, fun m g _ => Cert.KernelIdeal.Attn.frame_ideal m g trivial,
    Cert.KernelIdeal.Attn.frame_reference, fun m g _ => Cert.KernelIdeal.Attn.frame_reference m g trivial, trivial, Cert.Meet.algebraic⟩

end Cert.Proof

end
